-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S2048 : Shape := ⟨1, ![2048]⟩
abbrev S2048x1x1 : Shape := ⟨3, ![2048, 1, 1]⟩
abbrev S1x16x128 : Shape := ⟨3, ![1, 16, 128]⟩
abbrev S16x128 : Shape := ⟨2, ![16, 128]⟩
abbrev S128x16x128 : Shape := ⟨3, ![128, 16, 128]⟩
abbrev S128x128 : Shape := ⟨2, ![128, 128]⟩
abbrev S1x128 : Shape := ⟨2, ![1, 128]⟩
abbrev S128x1x1 : Shape := ⟨3, ![128, 1, 1]⟩
abbrev S128x1x128 : Shape := ⟨3, ![128, 1, 128]⟩
abbrev S128 : Shape := ⟨1, ![128]⟩
abbrev S128x1 : Shape := ⟨2, ![128, 1]⟩
abbrev S1000 : Shape := ⟨1, ![1000]⟩
abbrev S2000x4 : Shape := ⟨2, ![2000, 4]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 235
  | .vmem => 11
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S20000x1, .f32⟩
  | 5 => ⟨S20000, .f32⟩
  | 6 => ⟨S20000, .f32⟩
  | 7 => ⟨S20000x1, .f32⟩
  | 8 => ⟨S20000, .f32⟩
  | 9 => ⟨S20000x1, .f32⟩
  | 10 => ⟨S20000, .f32⟩
  | 11 => ⟨S20000, .f32⟩
  | 12 => ⟨S20000x1, .f32⟩
  | 13 => ⟨S20000, .f32⟩
  | 14 => ⟨S20000x1, .f32⟩
  | 15 => ⟨S20000, .f32⟩
  | 16 => ⟨S20000, .f32⟩
  | 17 => ⟨S20000x1, .f32⟩
  | 18 => ⟨S20000, .f32⟩
  | 19 => ⟨S20000x1, .f32⟩
  | 20 => ⟨S20000, .f32⟩
  | 21 => ⟨S20000, .f32⟩
  | 22 => ⟨S20000, .f32⟩
  | 23 => ⟨S_, .f32⟩
  | 24 => ⟨S20000, .f32⟩
  | 25 => ⟨S20000, .i1⟩
  | 26 => ⟨S20000, .f32⟩
  | 27 => ⟨S_, .f32⟩
  | 28 => ⟨S20000, .f32⟩
  | 29 => ⟨S20000, .i1⟩
  | 30 => ⟨S20000, .i1⟩
  | 31 => ⟨S_, .f32⟩
  | 32 => ⟨S_, .f32⟩
  | 33 => ⟨S20000, .f32⟩
  | 34 => ⟨S20000, .f32⟩
  | 35 => ⟨S2000, .f32⟩
  | 36 => ⟨S2000, .i32⟩
  | 37 => ⟨S_, .i32⟩
  | 38 => ⟨S2000, .i32⟩
  | 39 => ⟨S2000, .i1⟩
  | 40 => ⟨S_, .i32⟩
  | 41 => ⟨S2000, .i32⟩
  | 42 => ⟨S2000, .i32⟩
  | 43 => ⟨S2000, .i32⟩
  | 44 => ⟨S2000x1, .i32⟩
  | 45 => ⟨S1, .i32⟩
  | 46 => ⟨S_, .i32⟩
  | 47 => ⟨S2000x1, .i32⟩
  | 48 => ⟨S2000x1, .i1⟩
  | 49 => ⟨S1x1, .i32⟩
  | 50 => ⟨S2000x1, .i32⟩
  | 51 => ⟨S2000x1, .i1⟩
  | 52 => ⟨S2000x1, .i1⟩
  | 53 => ⟨S_, .i1⟩
  | 54 => ⟨S2000, .i1⟩
  | 55 => ⟨S2000, .f32⟩
  | 56 => ⟨S_, .f32⟩
  | 57 => ⟨S2000, .f32⟩
  | 58 => ⟨S2000, .f32⟩
  | 59 => ⟨S_, .i32⟩
  | 60 => ⟨S2000, .i32⟩
  | 61 => ⟨S2000, .i1⟩
  | 62 => ⟨S_, .i32⟩
  | 63 => ⟨S2000, .i32⟩
  | 64 => ⟨S2000, .i32⟩
  | 65 => ⟨S2000, .i32⟩
  | 66 => ⟨S2000x1, .i32⟩
  | 67 => ⟨S1, .i32⟩
  | 68 => ⟨S_, .i32⟩
  | 69 => ⟨S2000x1, .i32⟩
  | 70 => ⟨S2000x1, .i1⟩
  | 71 => ⟨S1x1, .i32⟩
  | 72 => ⟨S2000x1, .i32⟩
  | 73 => ⟨S2000x1, .i1⟩
  | 74 => ⟨S2000x1, .i1⟩
  | 75 => ⟨S_, .i1⟩
  | 76 => ⟨S2000, .i1⟩
  | 77 => ⟨S2000, .f32⟩
  | 78 => ⟨S_, .f32⟩
  | 79 => ⟨S2000, .f32⟩
  | 80 => ⟨S2000, .f32⟩
  | 81 => ⟨S_, .i32⟩
  | 82 => ⟨S2000, .i32⟩
  | 83 => ⟨S2000, .i1⟩
  | 84 => ⟨S_, .i32⟩
  | 85 => ⟨S2000, .i32⟩
  | 86 => ⟨S2000, .i32⟩
  | 87 => ⟨S2000, .i32⟩
  | 88 => ⟨S2000x1, .i32⟩
  | 89 => ⟨S1, .i32⟩
  | 90 => ⟨S_, .i32⟩
  | 91 => ⟨S2000x1, .i32⟩
  | 92 => ⟨S2000x1, .i1⟩
  | 93 => ⟨S1x1, .i32⟩
  | 94 => ⟨S2000x1, .i32⟩
  | 95 => ⟨S2000x1, .i1⟩
  | 96 => ⟨S2000x1, .i1⟩
  | 97 => ⟨S_, .i1⟩
  | 98 => ⟨S2000, .i1⟩
  | 99 => ⟨S2000, .f32⟩
  | 100 => ⟨S_, .f32⟩
  | 101 => ⟨S2000, .f32⟩
  | 102 => ⟨S2000, .f32⟩
  | 103 => ⟨S_, .i32⟩
  | 104 => ⟨S2000, .i32⟩
  | 105 => ⟨S2000, .i1⟩
  | 106 => ⟨S_, .i32⟩
  | 107 => ⟨S2000, .i32⟩
  | 108 => ⟨S2000, .i32⟩
  | 109 => ⟨S2000, .i32⟩
  | 110 => ⟨S2000x1, .i32⟩
  | 111 => ⟨S1, .i32⟩
  | 112 => ⟨S_, .i32⟩
  | 113 => ⟨S2000x1, .i32⟩
  | 114 => ⟨S2000x1, .i1⟩
  | 115 => ⟨S1x1, .i32⟩
  | 116 => ⟨S2000x1, .i32⟩
  | 117 => ⟨S2000x1, .i1⟩
  | 118 => ⟨S2000x1, .i1⟩
  | 119 => ⟨S_, .i1⟩
  | 120 => ⟨S2000, .i1⟩
  | 121 => ⟨S2000, .f32⟩
  | 122 => ⟨S_, .f32⟩
  | 123 => ⟨S2000, .f32⟩
  | 124 => ⟨S2000, .f32⟩
  | 125 => ⟨S_, .i32⟩
  | 126 => ⟨S_, .f32⟩
  | 127 => ⟨S2048, .f32⟩
  | _ => ⟨S20000x4, .f32⟩

abbrev hbmTy0_1 (i : Nat) : BufTy := match i % 128 with
  | 0 => ⟨S_, .i32⟩
  | 1 => ⟨S_, .f32⟩
  | 2 => ⟨S2048, .f32⟩
  | 3 => ⟨S_, .i32⟩
  | 4 => ⟨S_, .f32⟩
  | 5 => ⟨S2048, .f32⟩
  | 6 => ⟨S_, .i32⟩
  | 7 => ⟨S_, .f32⟩
  | 8 => ⟨S2048, .f32⟩
  | 9 => ⟨S2048x1x1, .f32⟩
  | 10 => ⟨S2048x1x1, .f32⟩
  | 11 => ⟨S2048x1x1, .f32⟩
  | 12 => ⟨S2048x1x1, .f32⟩
  | 13 => ⟨S1x16x128, .f32⟩
  | 14 => ⟨S1x16x128, .f32⟩
  | 15 => ⟨S1x16x128, .f32⟩
  | 16 => ⟨S1x16x128, .f32⟩
  | 17 => ⟨S16x128, .f32⟩
  | 18 => ⟨S2048, .f32⟩
  | 19 => ⟨S2000, .f32⟩
  | 20 => ⟨S_, .f32⟩
  | 21 => ⟨S2000, .f32⟩
  | 22 => ⟨S2000, .i1⟩
  | 23 => ⟨S_, .f32⟩
  | 24 => ⟨S_, .f32⟩
  | 25 => ⟨S2000, .f32⟩
  | 26 => ⟨S2000, .f32⟩
  | 27 => ⟨S1000, .f32⟩
  | 28 => ⟨S1000, .i32⟩
  | 29 => ⟨S2000x1, .f32⟩
  | 30 => ⟨S2000x1, .f32⟩
  | 31 => ⟨S2000x1, .f32⟩
  | 32 => ⟨S2000x1, .f32⟩
  | 33 => ⟨S2000x4, .f32⟩
  | 34 => ⟨S_, .i32⟩
  | 35 => ⟨S1000, .i32⟩
  | 36 => ⟨S1000, .i1⟩
  | 37 => ⟨S_, .i32⟩
  | 38 => ⟨S1000, .i32⟩
  | 39 => ⟨S1000, .i32⟩
  | 40 => ⟨S1000, .i32⟩
  | 41 => ⟨S1000x1, .i32⟩
  | 42 => ⟨S1, .i32⟩
  | 43 => ⟨S_, .i32⟩
  | 44 => ⟨S1000x1, .i32⟩
  | 45 => ⟨S1000x1, .i1⟩
  | 46 => ⟨S1x1, .i32⟩
  | 47 => ⟨S1000x1, .i32⟩
  | 48 => ⟨S1000x1, .i1⟩
  | 49 => ⟨S1000x1, .i1⟩
  | 50 => ⟨S_, .i1⟩
  | 51 => ⟨S1000, .i1⟩
  | 52 => ⟨S1000x4, .f32⟩
  | 53 => ⟨S1000x4, .i1⟩
  | 54 => ⟨S_, .f32⟩
  | 55 => ⟨S1000x4, .f32⟩
  | 56 => ⟨S1000x4, .f32⟩
  | 57 => ⟨S_, .i32⟩
  | 58 => ⟨S1000, .i32⟩
  | 59 => ⟨S1000, .i1⟩
  | 60 => ⟨S_, .i32⟩
  | 61 => ⟨S1000, .i32⟩
  | 62 => ⟨S1000, .i32⟩
  | 63 => ⟨S1000, .i32⟩
  | 64 => ⟨S1000x1, .i32⟩
  | 65 => ⟨S1, .i32⟩
  | 66 => ⟨S_, .i32⟩
  | 67 => ⟨S1000x1, .i32⟩
  | 68 => ⟨S1000x1, .i1⟩
  | 69 => ⟨S1x1, .i32⟩
  | 70 => ⟨S1000x1, .i32⟩
  | 71 => ⟨S1000x1, .i1⟩
  | 72 => ⟨S1000x1, .i1⟩
  | 73 => ⟨S_, .i1⟩
  | 74 => ⟨S1000, .i1⟩
  | 75 => ⟨S1000, .i1⟩
  | 76 => ⟨S_, .i1⟩
  | 77 => ⟨S1000, .i1⟩
  | 78 => ⟨S1000, .i1⟩
  | 79 => ⟨S_, .i32⟩
  | 80 => ⟨S1000, .i32⟩
  | 81 => ⟨S1000, .i1⟩
  | 82 => ⟨S_, .i32⟩
  | 83 => ⟨S1000, .i32⟩
  | 84 => ⟨S1000, .i32⟩
  | 85 => ⟨S1000, .i32⟩
  | 86 => ⟨S1000x1, .i32⟩
  | 87 => ⟨S1, .i32⟩
  | 88 => ⟨S_, .i32⟩
  | 89 => ⟨S1000x1, .i32⟩
  | 90 => ⟨S1000x1, .i1⟩
  | 91 => ⟨S1x1, .i32⟩
  | 92 => ⟨S1000x1, .i32⟩
  | 93 => ⟨S1000x1, .i1⟩
  | 94 => ⟨S1000x1, .i1⟩
  | 95 => ⟨S_, .i1⟩
  | 96 => ⟨S1000, .i1⟩
  | 97 => ⟨S1000, .f32⟩
  | 98 => ⟨S_, .f32⟩
  | 99 => ⟨S1000, .f32⟩
  | 100 => ⟨S1000, .f32⟩
  | 101 => ⟨S_, .f32⟩
  | 102 => ⟨S_, .f32⟩
  | 103 => ⟨S1000, .f32⟩
  | 104 => ⟨S1000, .f32⟩
  | 105 => ⟨S1000x1, .f32⟩
  | 106 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | .local _ .vmem, ⟨0, _⟩ => ⟨S2048x1x1, .f32⟩
  | .local _ .vmem, ⟨1, _⟩ => ⟨S2048x1x1, .f32⟩
  | .local _ .vmem, ⟨2, _⟩ => ⟨S2048x1x1, .f32⟩
  | .local _ .vmem, ⟨3, _⟩ => ⟨S2048x1x1, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S16x128, .f32⟩
  | .local _ .vmem, ⟨9, _⟩ => ⟨S128x16x128, .f32⟩
  | .local _ .vmem, ⟨10, _⟩ => ⟨S128x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v27 : Ref sig .tc := ⟨.hbm, 34, rfl⟩
abbrev main_values : Ref sig .tc := ⟨.hbm, 35, rfl⟩
abbrev main_indices : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v28 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v29 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v30 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v31 : Ref sig .tc := ⟨.hbm, 124, rfl⟩
abbrev main_c : Ref sig .tc := ⟨.hbm, 125, rfl⟩
abbrev main_call5_v0 : Ref sig .tc := ⟨.hbm, 126, rfl⟩
abbrev main_v32 : Ref sig .tc := ⟨.hbm, 127, rfl⟩
abbrev main_c_2 : Ref sig .tc := ⟨.hbm, 128, rfl⟩
abbrev main_call6_v0 : Ref sig .tc := ⟨.hbm, 129, rfl⟩
abbrev main_v33 : Ref sig .tc := ⟨.hbm, 130, rfl⟩
abbrev main_c_3 : Ref sig .tc := ⟨.hbm, 131, rfl⟩
abbrev main_call7_v0 : Ref sig .tc := ⟨.hbm, 132, rfl⟩
abbrev main_v34 : Ref sig .tc := ⟨.hbm, 133, rfl⟩
abbrev main_c_4 : Ref sig .tc := ⟨.hbm, 134, rfl⟩
abbrev main_call8_v0 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_cst_5 : Ref sig .tc := ⟨.hbm, 148, rfl⟩
abbrev main_v47 : Ref sig .tc := ⟨.hbm, 149, rfl⟩
abbrev main_v48 : Ref sig .tc := ⟨.hbm, 150, rfl⟩
abbrev main_cst_6 : Ref sig .tc := ⟨.hbm, 151, rfl⟩
abbrev main_call9_v0 : Ref sig .tc := ⟨.hbm, 152, rfl⟩
abbrev main_call9_v1 : Ref sig .tc := ⟨.hbm, 153, rfl⟩
abbrev main_v49 : Ref sig .tc := ⟨.hbm, 154, rfl⟩
abbrev main_values_7 : Ref sig .tc := ⟨.hbm, 155, rfl⟩
abbrev main_indices_8 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_call10_c : Ref sig .tc := ⟨.hbm, 162, rfl⟩
abbrev main_call10_v0 : Ref sig .tc := ⟨.hbm, 163, rfl⟩
abbrev main_call10_v1 : Ref sig .tc := ⟨.hbm, 164, rfl⟩
abbrev main_call10_c_0 : Ref sig .tc := ⟨.hbm, 165, rfl⟩
abbrev main_call10_v2 : Ref sig .tc := ⟨.hbm, 166, rfl⟩
abbrev main_call10_v3 : Ref sig .tc := ⟨.hbm, 167, rfl⟩
abbrev main_call10_v4 : Ref sig .tc := ⟨.hbm, 168, rfl⟩
abbrev main_call10_v5 : Ref sig .tc := ⟨.hbm, 169, rfl⟩
abbrev main_call10_c_1 : Ref sig .tc := ⟨.hbm, 170, rfl⟩
abbrev main_call10_c_2 : Ref sig .tc := ⟨.hbm, 171, rfl⟩
abbrev main_call10_v6 : Ref sig .tc := ⟨.hbm, 172, rfl⟩
abbrev main_call10_v7 : Ref sig .tc := ⟨.hbm, 173, rfl⟩
abbrev main_call10_v8 : Ref sig .tc := ⟨.hbm, 174, rfl⟩
abbrev main_call10_v9 : Ref sig .tc := ⟨.hbm, 175, rfl⟩
abbrev main_call10_v10 : Ref sig .tc := ⟨.hbm, 176, rfl⟩
abbrev main_call10_v11 : Ref sig .tc := ⟨.hbm, 177, rfl⟩
abbrev main_call10_c_3 : Ref sig .tc := ⟨.hbm, 178, rfl⟩
abbrev main_call10_v12 : Ref sig .tc := ⟨.hbm, 179, rfl⟩
abbrev main_call10_v13 : Ref sig .tc := ⟨.hbm, 180, rfl⟩
abbrev main_call10_v14 : Ref sig .tc := ⟨.hbm, 181, rfl⟩
abbrev main_call10_cst : Ref sig .tc := ⟨.hbm, 182, rfl⟩
abbrev main_call10_v15 : Ref sig .tc := ⟨.hbm, 183, rfl⟩
abbrev main_v55 : Ref sig .tc := ⟨.hbm, 184, rfl⟩
abbrev main_call11_c : Ref sig .tc := ⟨.hbm, 185, rfl⟩
abbrev main_call11_v0 : Ref sig .tc := ⟨.hbm, 186, rfl⟩
abbrev main_call11_v1 : Ref sig .tc := ⟨.hbm, 187, rfl⟩
abbrev main_call11_c_0 : Ref sig .tc := ⟨.hbm, 188, rfl⟩
abbrev main_call11_v2 : Ref sig .tc := ⟨.hbm, 189, rfl⟩
abbrev main_call11_v3 : Ref sig .tc := ⟨.hbm, 190, rfl⟩
abbrev main_call11_v4 : Ref sig .tc := ⟨.hbm, 191, rfl⟩
abbrev main_call11_v5 : Ref sig .tc := ⟨.hbm, 192, rfl⟩
abbrev main_call11_c_1 : Ref sig .tc := ⟨.hbm, 193, rfl⟩
abbrev main_call11_c_2 : Ref sig .tc := ⟨.hbm, 194, rfl⟩
abbrev main_call11_v6 : Ref sig .tc := ⟨.hbm, 195, rfl⟩
abbrev main_call11_v7 : Ref sig .tc := ⟨.hbm, 196, rfl⟩
abbrev main_call11_v8 : Ref sig .tc := ⟨.hbm, 197, rfl⟩
abbrev main_call11_v9 : Ref sig .tc := ⟨.hbm, 198, rfl⟩
abbrev main_call11_v10 : Ref sig .tc := ⟨.hbm, 199, rfl⟩
abbrev main_call11_v11 : Ref sig .tc := ⟨.hbm, 200, rfl⟩
abbrev main_call11_c_3 : Ref sig .tc := ⟨.hbm, 201, rfl⟩
abbrev main_call11_v12 : Ref sig .tc := ⟨.hbm, 202, rfl⟩
abbrev main_call11_v13 : Ref sig .tc := ⟨.hbm, 203, rfl⟩
abbrev main_call11_c_4 : Ref sig .tc := ⟨.hbm, 204, rfl⟩
abbrev main_call11_v14 : Ref sig .tc := ⟨.hbm, 205, rfl⟩
abbrev main_v56 : Ref sig .tc := ⟨.hbm, 206, rfl⟩
abbrev main_call12_c : Ref sig .tc := ⟨.hbm, 207, rfl⟩
abbrev main_call12_v0 : Ref sig .tc := ⟨.hbm, 208, rfl⟩
abbrev main_call12_v1 : Ref sig .tc := ⟨.hbm, 209, rfl⟩
abbrev main_call12_c_0 : Ref sig .tc := ⟨.hbm, 210, rfl⟩
abbrev main_call12_v2 : Ref sig .tc := ⟨.hbm, 211, rfl⟩
abbrev main_call12_v3 : Ref sig .tc := ⟨.hbm, 212, rfl⟩
abbrev main_call12_v4 : Ref sig .tc := ⟨.hbm, 213, rfl⟩
abbrev main_call12_v5 : Ref sig .tc := ⟨.hbm, 214, rfl⟩
abbrev main_call12_c_1 : Ref sig .tc := ⟨.hbm, 215, rfl⟩
abbrev main_call12_c_2 : Ref sig .tc := ⟨.hbm, 216, rfl⟩
abbrev main_call12_v6 : Ref sig .tc := ⟨.hbm, 217, rfl⟩
abbrev main_call12_v7 : Ref sig .tc := ⟨.hbm, 218, rfl⟩
abbrev main_call12_v8 : Ref sig .tc := ⟨.hbm, 219, rfl⟩
abbrev main_call12_v9 : Ref sig .tc := ⟨.hbm, 220, rfl⟩
abbrev main_call12_v10 : Ref sig .tc := ⟨.hbm, 221, rfl⟩
abbrev main_call12_v11 : Ref sig .tc := ⟨.hbm, 222, rfl⟩
abbrev main_call12_c_3 : Ref sig .tc := ⟨.hbm, 223, rfl⟩
abbrev main_call12_v12 : Ref sig .tc := ⟨.hbm, 224, rfl⟩
abbrev main_call12_v13 : Ref sig .tc := ⟨.hbm, 225, rfl⟩
abbrev main_call12_cst : Ref sig .tc := ⟨.hbm, 226, rfl⟩
abbrev main_call12_v14 : Ref sig .tc := ⟨.hbm, 227, rfl⟩
abbrev main_v57 : Ref sig .tc := ⟨.hbm, 228, rfl⟩
abbrev main_cst_9 : Ref sig .tc := ⟨.hbm, 229, rfl⟩
abbrev main_call13_v0 : Ref sig .tc := ⟨.hbm, 230, rfl⟩
abbrev main_call13_v1 : Ref sig .tc := ⟨.hbm, 231, rfl⟩
abbrev main_v58 : Ref sig .tc := ⟨.hbm, 232, rfl⟩
abbrev main_v59 : Ref sig .tc := ⟨.hbm, 233, rfl⟩
abbrev main_v60 : Ref sig .tc := ⟨.hbm, 234, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let c128_i32 : BitVec 32 := 128#32
  let v23 : BitVec 32 := Scalar.muli arg11 c128_i32
  let v24 : Index := Scalar.indexCast v23
  let c0_14 : Index := 0#32
  let c0_15 : Index := 0#32
  ![v24.toNat, 0, 0]
def k0_off2 (k0_t1 : Fin k0_t1_loop.trips) : Fin 3 → Nat :=
  let c0_31 : Index := 0#32
  let c0_i32 : BitVec 32 := 0#32
  let c1_i32 : BitVec 32 := 1#32
  let arg11 : BitVec 32 := Scf.iv c0_i32 c1_i32 k0_t1
  let v73 : Index := Scalar.indexCast arg11
  let c0_32 : Index := 0#32
  ![0, v73.toNat, 0]
@[reducible] def k0_t2_loop : Scf.Loop 32 :=
  let c0_i32_37 : BitVec 32 := 0#32
  let c128_i32_38 : BitVec 32 := 128#32
  let v86 : BitVec 32 := Scalar.addi c0_i32_37 c128_i32_38
  let c1_i32_39 : BitVec 32 := 1#32
  ⟨c0_i32_37, v86, c1_i32_39⟩
def k0_off3 (k0_t2 : Fin k0_t2_loop.trips) : Fin 2 → Nat :=
  let c0_i32_37 : BitVec 32 := 0#32
  let c1_i32_39 : BitVec 32 := 1#32
  let arg13 : BitVec 32 := Scf.iv c0_i32_37 c1_i32_39 k0_t2
  let v118 : Index := Scalar.indexCast arg13
  let c0_50 : Index := 0#32
  ![v118.toNat, 0]
abbrev stage0_0 : Fin 1 → Memref sig .tc .vmem S2048x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S1x2000 : Shape := ⟨2, ![1, 2000]⟩
abbrev S2000x2000 : Shape := ⟨2, ![2000, 2000]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 243
  | .vmem => 0
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S20000x1, .f32⟩
  | 5 => ⟨S20000, .f32⟩
  | 6 => ⟨S20000, .f32⟩
  | 7 => ⟨S20000x1, .f32⟩
  | 8 => ⟨S20000, .f32⟩
  | 9 => ⟨S20000x1, .f32⟩
  | 10 => ⟨S20000, .f32⟩
  | 11 => ⟨S20000, .f32⟩
  | 12 => ⟨S20000x1, .f32⟩
  | 13 => ⟨S20000, .f32⟩
  | 14 => ⟨S20000x1, .f32⟩
  | 15 => ⟨S20000, .f32⟩
  | 16 => ⟨S20000, .f32⟩
  | 17 => ⟨S20000x1, .f32⟩
  | 18 => ⟨S20000, .f32⟩
  | 19 => ⟨S20000x1, .f32⟩
  | 20 => ⟨S20000, .f32⟩
  | 21 => ⟨S20000, .f32⟩
  | 22 => ⟨S20000x1, .f32⟩
  | 23 => ⟨S20000x1, .f32⟩
  | 24 => ⟨S20000x1, .f32⟩
  | 25 => ⟨S20000x1, .f32⟩
  | 26 => ⟨S20000x4, .f32⟩
  | 27 => ⟨S20000, .f32⟩
  | 28 => ⟨S_, .f32⟩
  | 29 => ⟨S20000, .f32⟩
  | 30 => ⟨S20000, .i1⟩
  | 31 => ⟨S20000, .f32⟩
  | 32 => ⟨S_, .f32⟩
  | 33 => ⟨S20000, .f32⟩
  | 34 => ⟨S20000, .i1⟩
  | 35 => ⟨S20000, .i1⟩
  | 36 => ⟨S_, .f32⟩
  | 37 => ⟨S_, .f32⟩
  | 38 => ⟨S20000, .f32⟩
  | 39 => ⟨S20000, .f32⟩
  | 40 => ⟨S2000, .f32⟩
  | 41 => ⟨S2000, .i32⟩
  | 42 => ⟨S_, .i32⟩
  | 43 => ⟨S2000, .i32⟩
  | 44 => ⟨S2000, .i1⟩
  | 45 => ⟨S_, .i32⟩
  | 46 => ⟨S2000, .i32⟩
  | 47 => ⟨S2000, .i32⟩
  | 48 => ⟨S2000, .i32⟩
  | 49 => ⟨S2000x1, .i32⟩
  | 50 => ⟨S1, .i32⟩
  | 51 => ⟨S_, .i32⟩
  | 52 => ⟨S2000x1, .i32⟩
  | 53 => ⟨S2000x1, .i1⟩
  | 54 => ⟨S1x1, .i32⟩
  | 55 => ⟨S2000x1, .i32⟩
  | 56 => ⟨S2000x1, .i1⟩
  | 57 => ⟨S2000x1, .i1⟩
  | 58 => ⟨S_, .i1⟩
  | 59 => ⟨S2000, .i1⟩
  | 60 => ⟨S2000x4, .f32⟩
  | 61 => ⟨S2000x4, .i1⟩
  | 62 => ⟨S_, .f32⟩
  | 63 => ⟨S2000x4, .f32⟩
  | 64 => ⟨S2000x4, .f32⟩
  | 65 => ⟨S2000x1, .f32⟩
  | 66 => ⟨S2000, .f32⟩
  | 67 => ⟨S2000x1, .f32⟩
  | 68 => ⟨S2000, .f32⟩
  | 69 => ⟨S2000x1, .f32⟩
  | 70 => ⟨S2000, .f32⟩
  | 71 => ⟨S2000x1, .f32⟩
  | 72 => ⟨S2000, .f32⟩
  | 73 => ⟨S2000, .f32⟩
  | 74 => ⟨S2000, .f32⟩
  | 75 => ⟨S2000, .f32⟩
  | 76 => ⟨S2000x1, .f32⟩
  | 77 => ⟨S1x2000, .f32⟩
  | 78 => ⟨S2000x2000, .f32⟩
  | 79 => ⟨S2000x2000, .f32⟩
  | 80 => ⟨S2000x2000, .f32⟩
  | 81 => ⟨S2000x1, .f32⟩
  | 82 => ⟨S1x2000, .f32⟩
  | 83 => ⟨S2000x2000, .f32⟩
  | 84 => ⟨S2000x2000, .f32⟩
  | 85 => ⟨S2000x2000, .f32⟩
  | 86 => ⟨S2000x1, .f32⟩
  | 87 => ⟨S1x2000, .f32⟩
  | 88 => ⟨S2000x2000, .f32⟩
  | 89 => ⟨S2000x2000, .f32⟩
  | 90 => ⟨S2000x2000, .f32⟩
  | 91 => ⟨S2000x1, .f32⟩
  | 92 => ⟨S1x2000, .f32⟩
  | 93 => ⟨S2000x2000, .f32⟩
  | 94 => ⟨S2000x2000, .f32⟩
  | 95 => ⟨S2000x2000, .f32⟩
  | 96 => ⟨S2000x2000, .f32⟩
  | 97 => ⟨S_, .f32⟩
  | 98 => ⟨S_, .f32⟩
  | 99 => ⟨S2000x2000, .f32⟩
  | 100 => ⟨S2000x2000, .f32⟩
  | 101 => ⟨S2000x2000, .f32⟩
  | 102 => ⟨S_, .f32⟩
  | 103 => ⟨S_, .f32⟩
  | 104 => ⟨S2000x2000, .f32⟩
  | 105 => ⟨S2000x2000, .f32⟩
  | 106 => ⟨S2000x2000, .f32⟩
  | 107 => ⟨S2000x1, .f32⟩
  | 108 => ⟨S1x2000, .f32⟩
  | 109 => ⟨S2000x2000, .f32⟩
  | 110 => ⟨S2000x2000, .f32⟩
  | 111 => ⟨S2000x2000, .f32⟩
  | 112 => ⟨S2000x2000, .f32⟩
  | 113 => ⟨S_, .f32⟩
  | 114 => ⟨S2000x2000, .f32⟩
  | 115 => ⟨S2000x2000, .f32⟩
  | 116 => ⟨S2000x2000, .f32⟩
  | 117 => ⟨S2000, .i32⟩
  | 118 => ⟨S_, .i1⟩
  | 119 => ⟨S2000, .i1⟩
  | 120 => ⟨S_, .i32⟩
  | 121 => ⟨S2000, .i32⟩
  | 122 => ⟨S2000x2000, .f32⟩
  | 123 => ⟨S2000, .i32⟩
  | 124 => ⟨S_, .i32⟩
  | 125 => ⟨S2000, .i1⟩
  | 126 => ⟨S_, .i32⟩
  | 127 => ⟨S_, .i1⟩
  | _ => ⟨S20000x4, .f32⟩

abbrev hbmTy0_1 (i : Nat) : BufTy := match i % 128 with
  | 0 => ⟨S1, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x2000, .f32⟩
  | 16 => ⟨S2000, .f32⟩
  | 17 => ⟨S_, .f32⟩
  | 18 => ⟨S2000, .f32⟩
  | 19 => ⟨S2000, .i1⟩
  | 20 => ⟨S_, .i32⟩
  | 21 => ⟨S_, .i1⟩
  | 22 => ⟨S_, .i32⟩
  | 23 => ⟨S_, .i32⟩
  | 24 => ⟨S_, .i32⟩
  | 25 => ⟨S1, .i1⟩
  | 26 => ⟨S_, .i1⟩
  | 27 => ⟨S2000, .i1⟩
  | 28 => ⟨S2000, .i1⟩
  | 29 => ⟨S2000, .i32⟩
  | 30 => ⟨S2000, .i1⟩
  | 31 => ⟨S2000, .i1⟩
  | 32 => ⟨S2000, .i1⟩
  | 33 => ⟨S2000, .i1⟩
  | 34 => ⟨S_, .i32⟩
  | 35 => ⟨S_, .i32⟩
  | 36 => ⟨S_, .f32⟩
  | 37 => ⟨S_, .f32⟩
  | 38 => ⟨S2000, .f32⟩
  | 39 => ⟨S2000, .f32⟩
  | 40 => ⟨S1000, .f32⟩
  | 41 => ⟨S1000, .i32⟩
  | 42 => ⟨S_, .i32⟩
  | 43 => ⟨S1000, .i32⟩
  | 44 => ⟨S1000, .i1⟩
  | 45 => ⟨S_, .i32⟩
  | 46 => ⟨S1000, .i32⟩
  | 47 => ⟨S1000, .i32⟩
  | 48 => ⟨S1000, .i32⟩
  | 49 => ⟨S1000x1, .i32⟩
  | 50 => ⟨S1, .i32⟩
  | 51 => ⟨S_, .i32⟩
  | 52 => ⟨S1000x1, .i32⟩
  | 53 => ⟨S1000x1, .i1⟩
  | 54 => ⟨S1x1, .i32⟩
  | 55 => ⟨S1000x1, .i32⟩
  | 56 => ⟨S1000x1, .i1⟩
  | 57 => ⟨S1000x1, .i1⟩
  | 58 => ⟨S_, .i1⟩
  | 59 => ⟨S1000, .i1⟩
  | 60 => ⟨S1000x4, .f32⟩
  | 61 => ⟨S1000x4, .i1⟩
  | 62 => ⟨S_, .f32⟩
  | 63 => ⟨S1000x4, .f32⟩
  | 64 => ⟨S1000x4, .f32⟩
  | 65 => ⟨S_, .i32⟩
  | 66 => ⟨S1000, .i32⟩
  | 67 => ⟨S1000, .i1⟩
  | 68 => ⟨S_, .i32⟩
  | 69 => ⟨S1000, .i32⟩
  | 70 => ⟨S1000, .i32⟩
  | 71 => ⟨S1000, .i32⟩
  | 72 => ⟨S1000x1, .i32⟩
  | 73 => ⟨S1, .i32⟩
  | 74 => ⟨S_, .i32⟩
  | 75 => ⟨S1000x1, .i32⟩
  | 76 => ⟨S1000x1, .i1⟩
  | 77 => ⟨S1x1, .i32⟩
  | 78 => ⟨S1000x1, .i32⟩
  | 79 => ⟨S1000x1, .i1⟩
  | 80 => ⟨S1000x1, .i1⟩
  | 81 => ⟨S_, .i1⟩
  | 82 => ⟨S1000, .i1⟩
  | 83 => ⟨S1000, .i1⟩
  | 84 => ⟨S_, .i1⟩
  | 85 => ⟨S1000, .i1⟩
  | 86 => ⟨S1000, .i1⟩
  | 87 => ⟨S_, .i32⟩
  | 88 => ⟨S1000, .i32⟩
  | 89 => ⟨S1000, .i1⟩
  | 90 => ⟨S_, .i32⟩
  | 91 => ⟨S1000, .i32⟩
  | 92 => ⟨S1000, .i32⟩
  | 93 => ⟨S1000, .i32⟩
  | 94 => ⟨S1000x1, .i32⟩
  | 95 => ⟨S1, .i32⟩
  | 96 => ⟨S_, .i32⟩
  | 97 => ⟨S1000x1, .i32⟩
  | 98 => ⟨S1000x1, .i1⟩
  | 99 => ⟨S1x1, .i32⟩
  | 100 => ⟨S1000x1, .i32⟩
  | 101 => ⟨S1000x1, .i1⟩
  | 102 => ⟨S1000x1, .i1⟩
  | 103 => ⟨S_, .i1⟩
  | 104 => ⟨S1000, .i1⟩
  | 105 => ⟨S1000, .f32⟩
  | 106 => ⟨S_, .f32⟩
  | 107 => ⟨S1000, .f32⟩
  | 108 => ⟨S1000, .f32⟩
  | 109 => ⟨S_, .f32⟩
  | 110 => ⟨S_, .f32⟩
  | 111 => ⟨S1000, .f32⟩
  | 112 => ⟨S1000, .f32⟩
  | 113 => ⟨S1000x1, .f32⟩
  | 114 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_cst : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v32 : Ref sig .tc := ⟨.hbm, 39, rfl⟩
abbrev main_values : Ref sig .tc := ⟨.hbm, 40, rfl⟩
abbrev main_indices : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_2 : Ref sig .tc := ⟨.hbm, 97, rfl⟩
abbrev main_call2_v0 : Ref sig .tc := ⟨.hbm, 98, rfl⟩
abbrev main_call2_v1 : Ref sig .tc := ⟨.hbm, 99, rfl⟩
abbrev main_v66 : Ref sig .tc := ⟨.hbm, 100, rfl⟩
abbrev main_v67 : Ref sig .tc := ⟨.hbm, 101, rfl⟩
abbrev main_cst_3 : Ref sig .tc := ⟨.hbm, 102, rfl⟩
abbrev main_call3_v0 : Ref sig .tc := ⟨.hbm, 103, rfl⟩
abbrev main_call3_v1 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_4 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c : Ref sig .tc := ⟨.hbm, 118, rfl⟩
abbrev main_v80 : Ref sig .tc := ⟨.hbm, 119, rfl⟩
abbrev main_c_5 : Ref sig .tc := ⟨.hbm, 120, rfl⟩
abbrev main_v81_0 : Ref sig .tc := ⟨.hbm, 121, rfl⟩
abbrev main_v81_1 : Ref sig .tc := ⟨.hbm, 122, rfl⟩
abbrev main_v81_2 : Ref sig .tc := ⟨.hbm, 123, rfl⟩
abbrev main_v81_3 : Ref sig .tc := ⟨.hbm, 124, rfl⟩
abbrev main_v81_4 : Ref sig .tc := ⟨.hbm, 125, rfl⟩
abbrev main_while0c_c_14 : Ref sig .tc := ⟨.hbm, 126, rfl⟩
abbrev main_while0c_v89 : Ref sig .tc := ⟨.hbm, 127, rfl⟩
abbrev main_while0b_call4_v0 : Ref sig .tc := ⟨.hbm, 128, rfl⟩
abbrev main_while0b_v89 : Ref sig .tc := ⟨.hbm, 129, rfl⟩
abbrev main_while0b_c_14 : Ref sig .tc := ⟨.hbm, 130, rfl⟩
abbrev main_while0b_v90 : Ref sig .tc := ⟨.hbm, 131, rfl⟩
abbrev main_while0b_c_15 : Ref sig .tc := ⟨.hbm, 132, rfl⟩
abbrev main_while0b_v91 : Ref sig .tc := ⟨.hbm, 133, rfl⟩
abbrev main_while0b_v92 : Ref sig .tc := ⟨.hbm, 134, rfl⟩
abbrev main_while0b_c_16 : Ref sig .tc := ⟨.hbm, 135, rfl⟩
abbrev main_while0b_c_17 : Ref sig .tc := ⟨.hbm, 136, rfl⟩
abbrev main_while0b_v93 : Ref sig .tc := ⟨.hbm, 137, rfl⟩
abbrev main_while0b_c_18 : Ref sig .tc := ⟨.hbm, 138, rfl⟩
abbrev main_while0b_c_19 : Ref sig .tc := ⟨.hbm, 139, rfl⟩
abbrev main_while0b_v94 : Ref sig .tc := ⟨.hbm, 140, rfl⟩
abbrev main_while0b_c_20 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_cst_21 : Ref sig .tc := ⟨.hbm, 145, rfl⟩
abbrev main_while0b_v98 : Ref sig .tc := ⟨.hbm, 146, rfl⟩
abbrev main_while0b_v99 : Ref sig .tc := ⟨.hbm, 147, rfl⟩
abbrev main_while0b_c_22 : Ref sig .tc := ⟨.hbm, 148, rfl⟩
abbrev main_while0b_v100 : Ref sig .tc := ⟨.hbm, 149, rfl⟩
abbrev main_while0b_c_23 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_c_24 : Ref sig .tc := ⟨.hbm, 162, rfl⟩
abbrev main_while0b_v112 : Ref sig .tc := ⟨.hbm, 163, rfl⟩
abbrev main_cst_6 : Ref sig .tc := ⟨.hbm, 164, rfl⟩
abbrev main_call5_v0 : Ref sig .tc := ⟨.hbm, 165, rfl⟩
abbrev main_call5_v1 : Ref sig .tc := ⟨.hbm, 166, rfl⟩
abbrev main_v82 : Ref sig .tc := ⟨.hbm, 167, rfl⟩
abbrev main_values_7 : Ref sig .tc := ⟨.hbm, 168, rfl⟩
abbrev main_indices_8 : Ref sig .tc := ⟨.hbm, 169, rfl⟩
abbrev main_call6_c : Ref sig .tc := ⟨.hbm, 170, rfl⟩
abbrev main_call6_v0 : Ref sig .tc := ⟨.hbm, 171, rfl⟩
abbrev main_call6_v1 : Ref sig .tc := ⟨.hbm, 172, rfl⟩
abbrev main_call6_c_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_c_1 : Ref sig .tc := ⟨.hbm, 178, rfl⟩
abbrev main_call6_c_2 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_3 : Ref sig .tc := ⟨.hbm, 186, rfl⟩
abbrev main_call6_v12 : Ref sig .tc := ⟨.hbm, 187, rfl⟩
abbrev main_call6_v13 : Ref sig .tc := ⟨.hbm, 188, rfl⟩
abbrev main_call6_v14 : Ref sig .tc := ⟨.hbm, 189, rfl⟩
abbrev main_call6_cst : Ref sig .tc := ⟨.hbm, 190, rfl⟩
abbrev main_call6_v15 : Ref sig .tc := ⟨.hbm, 191, rfl⟩
abbrev main_v83 : Ref sig .tc := ⟨.hbm, 192, rfl⟩
abbrev main_call7_c : Ref sig .tc := ⟨.hbm, 193, rfl⟩
abbrev main_call7_v0 : Ref sig .tc := ⟨.hbm, 194, rfl⟩
abbrev main_call7_v1 : Ref sig .tc := ⟨.hbm, 195, rfl⟩
abbrev main_call7_c_0 : Ref sig .tc := ⟨.hbm, 196, rfl⟩
abbrev main_call7_v2 : Ref sig .tc := ⟨.hbm, 197, rfl⟩
abbrev main_call7_v3 : Ref sig .tc := ⟨.hbm, 198, rfl⟩
abbrev main_call7_v4 : Ref sig .tc := ⟨.hbm, 199, rfl⟩
abbrev main_call7_v5 : Ref sig .tc := ⟨.hbm, 200, rfl⟩
abbrev main_call7_c_1 : Ref sig .tc := ⟨.hbm, 201, rfl⟩
abbrev main_call7_c_2 : Ref sig .tc := ⟨.hbm, 202, rfl⟩
abbrev main_call7_v6 : Ref sig .tc := ⟨.hbm, 203, rfl⟩
abbrev main_call7_v7 : Ref sig .tc := ⟨.hbm, 204, rfl⟩
abbrev main_call7_v8 : Ref sig .tc := ⟨.hbm, 205, rfl⟩
abbrev main_call7_v9 : Ref sig .tc := ⟨.hbm, 206, rfl⟩
abbrev main_call7_v10 : Ref sig .tc := ⟨.hbm, 207, rfl⟩
abbrev main_call7_v11 : Ref sig .tc := ⟨.hbm, 208, rfl⟩
abbrev main_call7_c_3 : Ref sig .tc := ⟨.hbm, 209, rfl⟩
abbrev main_call7_v12 : Ref sig .tc := ⟨.hbm, 210, rfl⟩
abbrev main_call7_v13 : Ref sig .tc := ⟨.hbm, 211, rfl⟩
abbrev main_call7_c_4 : Ref sig .tc := ⟨.hbm, 212, rfl⟩
abbrev main_call7_v14 : Ref sig .tc := ⟨.hbm, 213, rfl⟩
abbrev main_v84 : Ref sig .tc := ⟨.hbm, 214, rfl⟩
abbrev main_call8_c : Ref sig .tc := ⟨.hbm, 215, rfl⟩
abbrev main_call8_v0 : Ref sig .tc := ⟨.hbm, 216, rfl⟩
abbrev main_call8_v1 : Ref sig .tc := ⟨.hbm, 217, rfl⟩
abbrev main_call8_c_0 : Ref sig .tc := ⟨.hbm, 218, rfl⟩
abbrev main_call8_v2 : Ref sig .tc := ⟨.hbm, 219, rfl⟩
abbrev main_call8_v3 : Ref sig .tc := ⟨.hbm, 220, rfl⟩
abbrev main_call8_v4 : Ref sig .tc := ⟨.hbm, 221, rfl⟩
abbrev main_call8_v5 : Ref sig .tc := ⟨.hbm, 222, rfl⟩
abbrev main_call8_c_1 : Ref sig .tc := ⟨.hbm, 223, rfl⟩
abbrev main_call8_c_2 : Ref sig .tc := ⟨.hbm, 224, rfl⟩
abbrev main_call8_v6 : Ref sig .tc := ⟨.hbm, 225, rfl⟩
abbrev main_call8_v7 : Ref sig .tc := ⟨.hbm, 226, rfl⟩
abbrev main_call8_v8 : Ref sig .tc := ⟨.hbm, 227, rfl⟩
abbrev main_call8_v9 : Ref sig .tc := ⟨.hbm, 228, rfl⟩
abbrev main_call8_v10 : Ref sig .tc := ⟨.hbm, 229, rfl⟩
abbrev main_call8_v11 : Ref sig .tc := ⟨.hbm, 230, rfl⟩
abbrev main_call8_c_3 : Ref sig .tc := ⟨.hbm, 231, rfl⟩
abbrev main_call8_v12 : Ref sig .tc := ⟨.hbm, 232, rfl⟩
abbrev main_call8_v13 : Ref sig .tc := ⟨.hbm, 233, rfl⟩
abbrev main_call8_cst : Ref sig .tc := ⟨.hbm, 234, rfl⟩
abbrev main_call8_v14 : Ref sig .tc := ⟨.hbm, 235, rfl⟩
abbrev main_v85 : Ref sig .tc := ⟨.hbm, 236, rfl⟩
abbrev main_cst_9 : Ref sig .tc := ⟨.hbm, 237, rfl⟩
abbrev main_call9_v0 : Ref sig .tc := ⟨.hbm, 238, rfl⟩
abbrev main_call9_v1 : Ref sig .tc := ⟨.hbm, 239, rfl⟩
abbrev main_v86 : Ref sig .tc := ⟨.hbm, 240, rfl⟩
abbrev main_v87 : Ref sig .tc := ⟨.hbm, 241, rfl⟩
abbrev main_v88 : Ref sig .tc := ⟨.hbm, 242, rfl⟩

abbrev nD : Nat := 1
abbrev τ : Topo := Topo.v7x

variable {F : FTy → Type} [FloatOps F]

abbrev main_while0_count : Scf.Loop 32 := ⟨0#32, 2000#32, 1#32⟩
-- ==== Proof.PI.Block.lean ====
/-
  WHAT ONE BLOCK OF THE KERNEL COMPUTES, as functions of values alone.

  The kernel takes the boxes a block of 128 at a time. For block `k` it compares the block's 128 boxes with all
  2048 (`block`: one where the overlap is above the threshold, else zero), cuts out of that the block's own columns
  above the diagonal (`square`), settles the block's own flags one row after the other (`settle`), and takes the boxes
  that the settled flags suppress out of the later blocks (`blockStep`). `blocks` repeats this from all ones.
-/
module

public import proofs.«01_k».proof.Proof.Gen.KernelIdeal.Loops

@[expose] public section

noncomputable section

namespace Cert.Proof.PI

open Cert.KernelIdeal Cert.KernelIdeal.Gen
open Idealize.ShloMosaic Idealize.ShloMosaic.TcCoe

variable {F : FTy → Type} [FloatOps F]

/-- The 128 rows of block `k` out of a column of 2048. -/
def rowsAt (x : Vec F S2048x1x1 .f32) (k : Fin k0_t1_loop.trips) : Vec F S128x1x1 .f32 := fun i =>
  x ((Rect.unit (s := S2048x1x1) (k0_off1 k) S128x1x1.size (k0_off1_inb k)).toLoadRect.idx i)

/-- One where box `i` of block `k` overlaps box `(b, l)` above the threshold, zero elsewhere. -/
def block (v0 v2 v4 v6 : Vec F S1x16x128 .f32) (x0 x1 x2 x3 : Vec F S2048x1x1 .f32) (k : Fin k0_t1_loop.trips) :
    FVec F S128x16x128 .f32 :=
  k0_pay11 (k0_pay10 (k0_pay1 v0) (k0_pay2 v2) (k0_pay3 v4) (k0_pay4 v6) (k0_pay5 v0 v2 v4 v6)
    (rowsAt x0 k) (rowsAt x1 k) (rowsAt x2 k) (rowsAt x3 k)) (Scalar.ofBits .f32 0x3F800000#32) (Scalar.ofBits .f32 0x00000000#32)

/-- The block's comparisons with itself, strictly above the diagonal. -/
def square (S : FVec F S128x16x128 .f32) (k : Fin k0_t1_loop.trips) : FVec F S128x128 .f32 :=
  k0_pay12 k0_pay7 fun i => S ((Rect.unit (s := S128x16x128) (k0_off2 k) S128x1x128.size (k0_off2_inb k)).toLoadRect.idx i)

/-- Row `j` of the square. -/
def rowAt (T : FVec F S128x128 .f32) (j : Fin k0_t2_loop.trips) : Vec F S1x128 .f32 := fun i =>
  T ((Rect.unit (s := S128x128) (k0_off3 j) S1x128.size (k0_off3_inb j)).toLoadRect.idx i)

/-- The block's own flags after `n` rows of the square: row `j` clears the lanes it marks, if lane `j` is itself still set. -/
def settle (v12 : IVec S1x128 32) (T : FVec F S128x128 .f32) (init : FVec F S1x128 .f32) : ℕ → FVec F S1x128 .f32
  | 0 => init
  | j + 1 => if h : j < k0_t2_loop.trips then k0_pay14 v12 ⟨j, h⟩ (settle v12 T init j) (rowAt T ⟨j, h⟩) else settle v12 T init j

/-- One more row settled. -/
theorem settle_succ (v12 : IVec S1x128 32) (T : FVec F S128x128 .f32) (init : FVec F S1x128 .f32) (j : Fin k0_t2_loop.trips) :
    settle v12 T init (j.val + 1) = k0_pay14 v12 j (settle v12 T init j.val) (rowAt T j) := by
  rw [settle, dif_pos j.isLt]

/-- All flags after block `k`, from the flags `acc` before it and the block's comparisons `S`. -/
def blockStep (v11 : IVec S16x128 32) (v12 : IVec S1x128 32) (S : FVec F S128x16x128 .f32) (k : Fin k0_t1_loop.trips)
    (acc : FVec F S16x128 .f32) : FVec F S16x128 .f32 :=
  k0_pay9 acc (Scf.iv 0#32 1#32 k)
    (settle v12 (square S k) (k0_pay13 v11 acc (Scf.iv 0#32 1#32 k)) k0_t2_loop.trips)
    (k0_pay15 v11 k0_pay6 (Scf.iv 0#32 1#32 k)
      (settle v12 (square S k) (k0_pay13 v11 acc (Scf.iv 0#32 1#32 k)) k0_t2_loop.trips) S)
    k0_pay16

/-- All flags after `n` blocks. -/
def blocks (v0 v2 v4 v6 : Vec F S1x16x128 .f32) (v11 : IVec S16x128 32) (v12 : IVec S1x128 32)
    (x0 x1 x2 x3 : Vec F S2048x1x1 .f32) (init : FVec F S16x128 .f32) : ℕ → FVec F S16x128 .f32
  | 0 => init
  | k + 1 => if h : k < k0_t1_loop.trips then
      blockStep v11 v12 (block v0 v2 v4 v6 x0 x1 x2 x3 ⟨k, h⟩) ⟨k, h⟩ (blocks v0 v2 v4 v6 v11 v12 x0 x1 x2 x3 init k)
    else blocks v0 v2 v4 v6 v11 v12 x0 x1 x2 x3 init k

/-- One more block. -/
theorem blocks_succ (v0 v2 v4 v6 : Vec F S1x16x128 .f32) (v11 : IVec S16x128 32) (v12 : IVec S1x128 32)
    (x0 x1 x2 x3 : Vec F S2048x1x1 .f32) (init : FVec F S16x128 .f32) (k : Fin k0_t1_loop.trips) :
    blocks v0 v2 v4 v6 v11 v12 x0 x1 x2 x3 init (k.val + 1)
      = blockStep v11 v12 (block v0 v2 v4 v6 x0 x1 x2 x3 k) k (blocks v0 v2 v4 v6 v11 v12 x0 x1 x2 x3 init k.val) := by
  rw [blocks, dif_pos k.isLt]

/-- Before the first block every flag is one. -/
theorem blocks_zero (v0 v2 v4 v6 : Vec F S1x16x128 .f32) (v11 : IVec S16x128 32) (v12 : IVec S1x128 32)
    (x0 x1 x2 x3 : Vec F S2048x1x1 .f32) (init : FVec F S16x128 .f32) :
    blocks v0 v2 v4 v6 v11 v12 x0 x1 x2 x3 init 0 = init := rfl

/-- The flags the kernel leaves, from its eight operands: all blocks, from all ones. -/
def keepOf (x0 x1 x2 x3 : Vec F S2048x1x1 .f32) (v0 v2 v4 v6 : Vec F S1x16x128 .f32) : FVec F S16x128 .f32 :=
  blocks v0 v2 v4 v6 (iota .tc S16x128 32 [0] iota_S16x128_d0_w32) (iota .tc S1x128 32 [1] iota_S1x128_d1_w32)
    x0 x1 x2 x3 k0_pay8 k0_t1_loop.trips

end Cert.Proof.PI

end
-- ==== Proof.PI.Trip.lean ====
/-
  THE KERNEL'S TWO LOOPS. The inner loop's carried value is `settle` (Block.lean) of what the scratch square holds
  (`inner_eq`); one trip of the outer loop, on operands held at known contents and scratch at any, carries the flags
  from `acc` to `blockStep … acc` (`outer_trip`); so `blocks` is the outer loop's invariant (`loopInv_k0_t1`).
-/
module

public import proofs.«01_k».proof.Proof.PI.Block
public import Idealize.ShloMosaic.Lib.WholeRead
public import Idealize.ShloMosaic.Lib.VecWindow

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof needs no variants. -/
abbrev 𝒱₀ : Variants := Variants.none

local notation "𝕄" => MT nD τ sig Unit (Elt F) ℕ (UR sig nD τ) ℕ

/-- The inner loop's carried value, the scratch square wholly stored with `T` before it: `settle`. -/
theorem inner_eq (c : Dev nD) (arg0 : Memref sig .tc .vmem S2048x1x1 .f32) (harg0 : arg0.IsWhole)
    (arg1 : Memref sig .tc .vmem S2048x1x1 .f32) (harg1 : arg1.IsWhole)
    (arg2 : Memref sig .tc .vmem S2048x1x1 .f32) (harg2 : arg2.IsWhole)
    (arg3 : Memref sig .tc .vmem S2048x1x1 .f32) (harg3 : arg3.IsWhole)
    (arg4 : Memref sig .tc .vmem S1x16x128 .f32) (harg4 : arg4.IsWhole)
    (arg5 : Memref sig .tc .vmem S1x16x128 .f32) (harg5 : arg5.IsWhole)
    (arg6 : Memref sig .tc .vmem S1x16x128 .f32) (harg6 : arg6.IsWhole)
    (arg7 : Memref sig .tc .vmem S1x16x128 .f32) (harg7 : arg7.IsWhole)
    (arg8 : Memref sig .tc .vmem S16x128 .f32) (harg8 : arg8.IsWhole)
    (arg9 : Memref sig .tc .vmem S128x16x128 .f32) (harg9 : arg9.IsWhole)
    (arg10 : Memref sig .tc .vmem S128x128 .f32) (harg10 : arg10.IsWhole)
    (v11 : IVec S16x128 32) (v12 : IVec S1x128 32) (v15 : IVec S128x128 1) (v18 : FVec F S128x128 .f32) (k : Fin k0_t1_loop.trips)
    (acc : FVec F S16x128 .f32) (b : BitVec 32) (v66 : IVec S128x16x128 1) (one zero : F .f32) (T : FVec F S128x128 .f32)
    (init : FVec F S1x128 .f32) (n : ℕ) (hn : n ≤ k0_t2_loop.trips) :
    st_k0_t2 𝒱₀ c none arg0 harg0 arg1 harg1 arg2 harg2 arg3 harg3 arg4 harg4 arg5 harg5 arg6 harg6 arg7 harg7 arg8 harg8 arg9 harg9 arg10 harg10
      v11 v12 v15 v18 k acc b v66 one zero
      (arg10.view.writes (Elt F) arg10.view.junk [⟨Rect.unit (s := S128x128) ![0, 0] S128x128.size inb_S128x128_S128x128_0_0, T⟩]) init n
      = settle v12 T init n := by
  induction n with
  | zero => rfl
  | succ n ih =>
    rw [show n + 1 = (⟨n, hn⟩ : Fin k0_t2_loop.trips).val + 1 from rfl, st_k0_t2_succ, settle_succ, ih (by omega)]
    unfold tripR_k0_t2 trip_k0_t2
    refine congrArg (k0_pay14 v12 _ _) (funext fun i => ?_)
    exact congrFun (View.read_writes_full (Val := Elt F) arg10.view arg10.view.junk inb_S128x128_S128x128_0_0 T []) _

/-- One trip of the outer loop: whatever the two scratch buffers hold, the flags go from `acc` to `blockStep … acc`. -/
theorem outer_trip (c : Dev nD) (arg0 : Memref sig .tc .vmem S2048x1x1 .f32) (harg0 : arg0.IsWhole)
    (arg1 : Memref sig .tc .vmem S2048x1x1 .f32) (harg1 : arg1.IsWhole)
    (arg2 : Memref sig .tc .vmem S2048x1x1 .f32) (harg2 : arg2.IsWhole)
    (arg3 : Memref sig .tc .vmem S2048x1x1 .f32) (harg3 : arg3.IsWhole)
    (arg4 : Memref sig .tc .vmem S1x16x128 .f32) (harg4 : arg4.IsWhole)
    (arg5 : Memref sig .tc .vmem S1x16x128 .f32) (harg5 : arg5.IsWhole)
    (arg6 : Memref sig .tc .vmem S1x16x128 .f32) (harg6 : arg6.IsWhole)
    (arg7 : Memref sig .tc .vmem S1x16x128 .f32) (harg7 : arg7.IsWhole)
    (arg8 : Memref sig .tc .vmem S16x128 .f32) (harg8 : arg8.IsWhole)
    (arg9 : Memref sig .tc .vmem S128x16x128 .f32) (harg9 : arg9.IsWhole)
    (arg10 : Memref sig .tc .vmem S128x128 .f32) (harg10 : arg10.IsWhole)
    (v0 v2 v4 v6 : Vec F S1x16x128 .f32) (v11 : IVec S16x128 32) (v12 : IVec S1x128 32)
    (x0 x1 x2 x3 : Vec F S2048x1x1 .f32) (f9 : Buf (Elt F) (arg9.view.loc (c : Thread nD τ))) (f10 : Buf (Elt F) (arg10.view.loc (c : Thread nD τ)))
    (k : Fin k0_t1_loop.trips) (acc : FVec F S16x128 .f32) (E : Set ℕ) :
    (iprop((arg0.view.loc (c : Thread nD τ) ↦[arg0.view.set]{fullShare} harg0.unread x0)
      ∗ (arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (arg9.view.loc (c : Thread nD τ) ↦[arg9.view.set]{fullShare} f9)
      ∗ (arg10.view.loc (c : Thread nD τ) ↦[arg10.view.set]{fullShare} f10)) : sProp 𝕄)
    ⊢ wp Idealize.ShloMosaic.frame (wpE (defs₀ (F := F)) 𝒱₀ (c : Thread nD τ) none) E (k0_t1_body (F := F) arg0 harg0 arg1 harg1 arg2 harg2 arg3 harg3 arg4 harg4 arg5 harg5 arg6 harg6 arg7 harg7 arg8 harg8 arg9 harg9 arg10 harg10 v0 v2 v4 v6 v11 v12 k acc)
      (fun yld => iprop((arg0.view.loc (c : Thread nD τ) ↦[arg0.view.set]{fullShare} harg0.unread x0)
      ∗ (arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (∃ f9', arg9.view.loc (c : Thread nD τ) ↦[arg9.view.set]{fullShare} f9')
      ∗ (∃ f10', arg10.view.loc (c : Thread nD τ) ↦[arg10.view.set]{fullShare} f10')
      ∗ ⌜yld = blockStep v11 v12 (block v0 v2 v4 v6 x0 x1 x2 x3 k) k acc⌝)) := by
  unfold k0_t1_body
  iintro ⟨H0, H1, H2, H3, H9, H10⟩
  sl_exec
  sl_step
  isplitl [H0]; · iexact H0
  isplitl [H1]; · iexact H1
  isplitl [H2]; · iexact H2
  isplitl [H3]; · iexact H3
  isplitl [H9]; · iexists _; iexact H9
  isplitl [H10]; · iexists _; iexact H10
  ipureintro
  have e0 : View.readAt (Elt F) arg0.view (Rect.unit (s := S2048x1x1) (k0_off1 k) S128x1x1.size (k0_off1_inb k)).toLoadRect (harg0.unread x0) = rowsAt x0 k :=
    funext fun i => harg0.readAt_unread x0 _ i
  have e1 : View.readAt (Elt F) arg1.view (Rect.unit (s := S2048x1x1) (k0_off1 k) S128x1x1.size (k0_off1_inb k)).toLoadRect (harg1.unread x1) = rowsAt x1 k :=
    funext fun i => harg1.readAt_unread x1 _ i
  have e2 : View.readAt (Elt F) arg2.view (Rect.unit (s := S2048x1x1) (k0_off1 k) S128x1x1.size (k0_off1_inb k)).toLoadRect (harg2.unread x2) = rowsAt x2 k :=
    funext fun i => harg2.readAt_unread x2 _ i
  have e3 : View.readAt (Elt F) arg3.view (Rect.unit (s := S2048x1x1) (k0_off1 k) S128x1x1.size (k0_off1_inb k)).toLoadRect (harg3.unread x3) = rowsAt x3 k :=
    funext fun i => harg3.readAt_unread x3 _ i
  have h9 : outer_trip.sl.H9_1 arg0 harg0 arg1 harg1 arg2 harg2 arg3 harg3 v0 v2 v4 v6 x0 x1 x2 x3 k
      = [⟨Rect.unit (s := S128x16x128) ![0, 0, 0] S128x16x128.size inb_S128x16x128_S128x16x128_0_0_0, block v0 v2 v4 v6 x0 x1 x2 x3 k⟩] := by
    unfold outer_trip.sl.H9_1 outer_trip.sl.r
    rw [e0, e1, e2, e3]; rfl
  have h10 : outer_trip.sl.H10_1 arg0 harg0 arg1 harg1 arg2 harg2 arg3 harg3 arg9 v0 v2 v4 v6 x0 x1 x2 x3 k
      = [⟨Rect.unit (s := S128x128) ![0, 0] S128x128.size inb_S128x128_S128x128_0_0, square (block v0 v2 v4 v6 x0 x1 x2 x3 k) k⟩] := by
    unfold outer_trip.sl.H10_1
    rw [h9]
    refine congrArg (fun z : FVec F S128x128 .f32 =>
      ([⟨Rect.unit (s := S128x128) ![0, 0] S128x128.size inb_S128x128_S128x128_0_0, z⟩] : List (View.Piece (Elt F) S128x128 .f32))) ?_
    refine congrArg (k0_pay12 (F := F) k0_pay7) (funext fun i => ?_)
    exact congrFun (View.read_writes_full (Val := Elt F) arg9.view arg9.view.junk inb_S128x16x128_S128x16x128_0_0_0 _ []) _
  have h94 : outer_trip.sl.v94 arg0 harg0 arg1 harg1 arg2 harg2 arg3 harg3 arg9 v0 v2 v4 v6 x0 x1 x2 x3 k
      = block v0 v2 v4 v6 x0 x1 x2 x3 k := by
    unfold outer_trip.sl.v94
    rw [h9]
    exact View.readAt_writes_full (Val := Elt F) arg9.view arg9.view.junk inb_S128x16x128_S128x16x128_0_0_0 inb_S128x16x128_S128x16x128_0_0_0 _ []
  unfold outer_trip.sl.r_1 outer_trip.sl.r_2
  rw [h94, h10]
  have hs := inner_eq c arg0 harg0 arg1 harg1 arg2 harg2 arg3 harg3 arg4 harg4 arg5 harg5 arg6 harg6 arg7 harg7 arg8 harg8 arg9 harg9 arg10 harg10 v11 v12 k0_pay6 k0_pay7 k acc (outer_trip.sl.arg11 k)
    (outer_trip.sl.r arg0 harg0 arg1 harg1 arg2 harg2 arg3 harg3 v0 v2 v4 v6 x0 x1 x2 x3 k) outer_trip.sl.cst_26 outer_trip.sl.cst_27
    (square (block v0 v2 v4 v6 x0 x1 x2 x3 k) k) (k0_pay13 v11 acc (outer_trip.sl.arg11 k)) k0_t2_loop.trips le_rfl
  rw [show Scf.trips k0_t2_loop.lb k0_t2_loop.ub k0_t2_loop.st = k0_t2_loop.trips from rfl, hs]
  rfl

set_option warn.classDefReducibility false in
/-- THE OUTER LOOP BY ITS INVARIANT: before trip `k` the operands are held as they were, the scratch at anything, and
    the carried flags are `blocks … k`. -/
@[sl_loop] def loopInv_k0_t1 (c : Dev nD) (arg0 : Memref sig .tc .vmem S2048x1x1 .f32) (harg0 : arg0.IsWhole)
    (arg1 : Memref sig .tc .vmem S2048x1x1 .f32) (harg1 : arg1.IsWhole)
    (arg2 : Memref sig .tc .vmem S2048x1x1 .f32) (harg2 : arg2.IsWhole)
    (arg3 : Memref sig .tc .vmem S2048x1x1 .f32) (harg3 : arg3.IsWhole)
    (arg4 : Memref sig .tc .vmem S1x16x128 .f32) (harg4 : arg4.IsWhole)
    (arg5 : Memref sig .tc .vmem S1x16x128 .f32) (harg5 : arg5.IsWhole)
    (arg6 : Memref sig .tc .vmem S1x16x128 .f32) (harg6 : arg6.IsWhole)
    (arg7 : Memref sig .tc .vmem S1x16x128 .f32) (harg7 : arg7.IsWhole)
    (arg8 : Memref sig .tc .vmem S16x128 .f32) (harg8 : arg8.IsWhole)
    (arg9 : Memref sig .tc .vmem S128x16x128 .f32) (harg9 : arg9.IsWhole)
    (arg10 : Memref sig .tc .vmem S128x128 .f32) (harg10 : arg10.IsWhole)
    (v0 v2 v4 v6 : Vec F S1x16x128 .f32) (v11 : IVec S16x128 32) (v12 : IVec S1x128 32) (init : FVec F S16x128 .f32)
    (x0 x1 x2 x3 : Vec F S2048x1x1 .f32) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 v0 v2 v4 v6 v11 v12 init where
  inv k acc := iprop((arg0.view.loc (c : Thread nD τ) ↦[arg0.view.set]{fullShare} harg0.unread x0)
      ∗ (arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (∃ f9, arg9.view.loc (c : Thread nD τ) ↦[arg9.view.set]{fullShare} f9)
      ∗ (∃ f10, arg10.view.loc (c : Thread nD τ) ↦[arg10.view.set]{fullShare} f10)
      ∗ ⌜acc = blocks v0 v2 v4 v6 v11 v12 x0 x1 x2 x3 init k⌝)
  step k acc := by
    iintro ⟨H0, H1, H2, H3, ⟨%f9, H9⟩, ⟨%f10, H10⟩, %h_acc⟩
    subst h_acc
    iapply (wp_wand_r Idealize.ShloMosaic.frame (wpE (defs₀ (F := F)) 𝒱₀ (c : Thread nD τ) none) Set.univ)
    isplitl [H0 H1 H2 H3 H9 H10]
    · iapply (outer_trip c arg0 harg0 arg1 harg1 arg2 harg2 arg3 harg3 arg4 harg4 arg5 harg5 arg6 harg6 arg7 harg7 arg8 harg8 arg9 harg9 arg10 harg10 v0 v2 v4 v6 v11 v12 x0 x1 x2 x3 f9 f10 k (blocks v0 v2 v4 v6 v11 v12 x0 x1 x2 x3 init k) Set.univ)
      isplitl [H0]; · iexact H0
      isplitl [H1]; · iexact H1
      isplitl [H2]; · iexact H2
      isplitl [H3]; · iexact H3
      isplitl [H9]; · iexact H9
      iexact H10
    · iintro %yld ⟨H0, H1, H2, H3, H9, H10, %h⟩
      isplitl [H0]; · iexact H0
      isplitl [H1]; · iexact H1
      isplitl [H2]; · iexact H2
      isplitl [H3]; · iexact H3
      isplitl [H9]; · iexact H9
      isplitl [H10]; · iexact H10
      ipureintro
      rw [blocks_succ]; exact h

end Cert.Proof.PI

end
-- ==== Proof.PI.Body.lean ====
/-
  THE KERNEL BODY, whole: on operands held at known contents, and the output and the two scratch buffers at any, it ends
  with the operands as they were and the output at the flags `keepOf` (Block.lean) of the operands.
-/
module

public import proofs.«01_k».proof.Proof.PI.Trip
public import Idealize.ShloMosaic.Lib.Pipeline.FrameBody

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run: the operands are left as they were, the output holds `keepOf` of them, the scratch anything. -/
theorem body_run (c : Dev nD) (arg0 : Memref sig .tc .vmem S2048x1x1 .f32) (harg0 : arg0.IsWhole)
    (arg1 : Memref sig .tc .vmem S2048x1x1 .f32) (harg1 : arg1.IsWhole)
    (arg2 : Memref sig .tc .vmem S2048x1x1 .f32) (harg2 : arg2.IsWhole)
    (arg3 : Memref sig .tc .vmem S2048x1x1 .f32) (harg3 : arg3.IsWhole)
    (arg4 : Memref sig .tc .vmem S1x16x128 .f32) (harg4 : arg4.IsWhole)
    (arg5 : Memref sig .tc .vmem S1x16x128 .f32) (harg5 : arg5.IsWhole)
    (arg6 : Memref sig .tc .vmem S1x16x128 .f32) (harg6 : arg6.IsWhole)
    (arg7 : Memref sig .tc .vmem S1x16x128 .f32) (harg7 : arg7.IsWhole)
    (arg8 : Memref sig .tc .vmem S16x128 .f32) (harg8 : arg8.IsWhole)
    (arg9 : Memref sig .tc .vmem S128x16x128 .f32) (harg9 : arg9.IsWhole)
    (arg10 : Memref sig .tc .vmem S128x128 .f32) (harg10 : arg10.IsWhole)
    (x0 x1 x2 x3 : Vec F S2048x1x1 .f32) (v0 v2 v4 v6 : Vec F S1x16x128 .f32) (K : PUnit → sProp 𝕄) :
    (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare v0 ∗ owns (c : Thread nD τ) arg5 fullShare v2 ∗ owns (c : Thread nD τ) arg6 fullShare v4 ∗ owns (c : Thread nD τ) arg7 fullShare v6
      ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare v0 ∗ owns (c : Thread nD τ) arg5 fullShare v2 ∗ owns (c : Thread nD τ) arg6 fullShare v4 ∗ owns (c : Thread nD τ) arg7 fullShare v6
          ∗ owns (c : Thread nD τ) arg8 fullShare (keepOf x0 x1 x2 x3 v0 v2 v4 v6)
          ∗ (∃ d, owns (c : Thread nD τ) arg9 fullShare d) ∗ (∃ d, owns (c : Thread nD τ) arg10 fullShare d)) -∗ K ⟨⟩)) : sProp 𝕄)
    ⊢ wp Idealize.ShloMosaic.frame (wpE (defs₀ (F := F)) 𝒱₀ (c : Thread nD τ) none) Set.univ (cc0__nms_keep_kernel arg0 harg0 arg1 harg1 arg2 harg2 arg3 harg3 arg4 harg4 arg5 harg5 arg6 harg6 arg7 harg7 arg8 harg8 arg9 harg9 arg10 harg10) K := by
  simp only [cc0__nms_keep_kernel_eq_skeleton]; unfold cc0__nms_keep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    rw [View.read_writes_full]
    have e4 : View.readAt (Elt F) arg4.view (Rect.unit (s := S1x16x128) ![0, 0, 0] S1x16x128.size inb_S1x16x128_S1x16x128_0_0_0).toLoadRect (harg4.unread v0) = v0 := (View.readAt_full ..).trans hf4
    have e5 : View.readAt (Elt F) arg5.view (Rect.unit (s := S1x16x128) ![0, 0, 0] S1x16x128.size inb_S1x16x128_S1x16x128_0_0_0).toLoadRect (harg5.unread v2) = v2 := (View.readAt_full ..).trans hf5
    have e6 : View.readAt (Elt F) arg6.view (Rect.unit (s := S1x16x128) ![0, 0, 0] S1x16x128.size inb_S1x16x128_S1x16x128_0_0_0).toLoadRect (harg6.unread v4) = v4 := (View.readAt_full ..).trans hf6
    have e7 : View.readAt (Elt F) arg7.view (Rect.unit (s := S1x16x128) ![0, 0, 0] S1x16x128.size inb_S1x16x128_S1x16x128_0_0_0).toLoadRect (harg7.unread v6) = v6 := (View.readAt_full ..).trans hf7
    rw [e4, e5, e6, e7]; rfl
  isplitl [H9]
  · iexists _, _; isplitr; swap; · iexact H9
    ipureintro; rfl
  iexists _, _; isplitr; swap; · iexact H10
  ipureintro; rfl

end Cert.Proof.PI

end
-- ==== Proof.PI.Run.lean ====
/-
  THE RUN OF THE KERNEL'S PROGRAM. The launch's proof data (`dats`: the operands' buffers hold their blocks, the output's
  holds the flags `keepOf` of them), the body obligation from Body.lean, the run of @main to its final state
  (`run_main`), and the claim that the arguments end unchanged with no semaphore raised (`quiet`).
-/
module

public import proofs.«01_k».proof.Proof.PI.Body
public import proofs.«01_k».proof.Proof.Gen.KernelIdeal.Frame
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`. -/
abbrev st0 (t : Fin cfg0.N) : Memref sig .tc .vmem S2048x1x1 .f32 := win0_0.stage (cfg0.slots t 0)
/-- Window 1's staging memref at point `t`. -/
abbrev st1 (t : Fin cfg0.N) : Memref sig .tc .vmem S2048x1x1 .f32 := win0_1.stage (cfg0.slots t 1)
/-- Window 2's staging memref at point `t`. -/
abbrev st2 (t : Fin cfg0.N) : Memref sig .tc .vmem S2048x1x1 .f32 := win0_2.stage (cfg0.slots t 2)
/-- Window 3's staging memref at point `t`. -/
abbrev st3 (t : Fin cfg0.N) : Memref sig .tc .vmem S2048x1x1 .f32 := win0_3.stage (cfg0.slots t 3)
/-- Window 4's staging memref at point `t`. -/
abbrev st4 (t : Fin cfg0.N) : Memref sig .tc .vmem S1x16x128 .f32 := win0_4.stage (cfg0.slots t 4)
/-- Window 5's staging memref at point `t`. -/
abbrev st5 (t : Fin cfg0.N) : Memref sig .tc .vmem S1x16x128 .f32 := win0_5.stage (cfg0.slots t 5)
/-- Window 6's staging memref at point `t`. -/
abbrev st6 (t : Fin cfg0.N) : Memref sig .tc .vmem S1x16x128 .f32 := win0_6.stage (cfg0.slots t 6)
/-- Window 7's staging memref at point `t`. -/
abbrev st7 (t : Fin cfg0.N) : Memref sig .tc .vmem S1x16x128 .f32 := win0_7.stage (cfg0.slots t 7)
/-- Window 8's staging memref at point `t`. -/
abbrev st8 (t : Fin cfg0.N) : Memref sig .tc .vmem S16x128 .f32 := win0_8.stage (cfg0.slots t 8)
/-- The two scratch operands: whole buffers of the kernel's own. -/
abbrev scr0 : Memref sig .tc .vmem S128x16x128 .f32 := Memref.whole cc0_scratch0
/-- The second scratch operand. -/
abbrev scr1 : Memref sig .tc .vmem S128x128 .f32 := Memref.whole cc0_scratch1

/-- The region's invariant with the scratch as memrefs owned at some contents. -/
theorem inv_eq (c : Dev nD) : (Pipeline.ΦA spec0 c : sProp 𝕄)
    = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the body leaves in the output's buffer: the flags of the operands' blocks. -/
def flags (c : Dev nD) (t : Fin cfg0.N) : Vec F S16x128 .f32 :=
  keepOf (iblk m c 0 t) (iblk m c 1 t) (iblk m c 2 t) (iblk m c 3 t) (iblk m c 4 t) (iblk m c 5 t) (iblk m c 6 t) (iblk m c 7 t)

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => flags m c t
  Φ _ := Pipeline.ΦA spec0 c
  q _ := fullShare
  owed _ := 0

/-- The array behind each window, when the region starts. -/
theorem A_eq (c : Dev nD) (w : Fin cfg0.W) : (dats m 0 c).A w = V m c (Pipeline.arrRef spec0 w) := by dsimp only [dats]

/-- The body leaves window 0's buffer as its block. -/
theorem after_0 (c : Dev nD) (t : Fin cfg0.N) : (dats m 0 c).after 0 t = iblk m c 0 t := by dsimp only [dats]
/-- The body leaves window 1's buffer as its block. -/
theorem after_1 (c : Dev nD) (t : Fin cfg0.N) : (dats m 0 c).after 1 t = iblk m c 1 t := by dsimp only [dats]
/-- The body leaves window 2's buffer as its block. -/
theorem after_2 (c : Dev nD) (t : Fin cfg0.N) : (dats m 0 c).after 2 t = iblk m c 2 t := by dsimp only [dats]
/-- The body leaves window 3's buffer as its block. -/
theorem after_3 (c : Dev nD) (t : Fin cfg0.N) : (dats m 0 c).after 3 t = iblk m c 3 t := by dsimp only [dats]
/-- The body leaves window 4's buffer as its block. -/
theorem after_4 (c : Dev nD) (t : Fin cfg0.N) : (dats m 0 c).after 4 t = iblk m c 4 t := by dsimp only [dats]
/-- The body leaves window 5's buffer as its block. -/
theorem after_5 (c : Dev nD) (t : Fin cfg0.N) : (dats m 0 c).after 5 t = iblk m c 5 t := by dsimp only [dats]
/-- The body leaves window 6's buffer as its block. -/
theorem after_6 (c : Dev nD) (t : Fin cfg0.N) : (dats m 0 c).after 6 t = iblk m c 6 t := by dsimp only [dats]
/-- The body leaves window 7's buffer as its block. -/
theorem after_7 (c : Dev nD) (t : Fin cfg0.N) : (dats m 0 c).after 7 t = iblk m c 7 t := by dsimp only [dats]
/-- The body leaves the flags in the output's buffer. -/
theorem after_8 (c : Dev nD) (t : Fin cfg0.N) : (dats m 0 c).after 8 t = flags m c t := by dsimp only [dats]

/-- The body finds window 0's block in its buffer. -/
theorem before_0 (c : Dev nD) (t : Fin cfg0.N) (d) : (dats m 0 c).before 0 t d = iblk m c 0 t :=
  before0_0_of m (dats m 0 c) (A_eq m c 0) (after_0 m c) t d
/-- The body finds window 1's block in its buffer. -/
theorem before_1 (c : Dev nD) (t : Fin cfg0.N) (d) : (dats m 0 c).before 1 t d = iblk m c 1 t :=
  before0_1_of m (dats m 0 c) (A_eq m c 1) (after_1 m c) t d
/-- The body finds window 2's block in its buffer. -/
theorem before_2 (c : Dev nD) (t : Fin cfg0.N) (d) : (dats m 0 c).before 2 t d = iblk m c 2 t :=
  before0_2_of m (dats m 0 c) (A_eq m c 2) (after_2 m c) t d
/-- The body finds window 3's block in its buffer. -/
theorem before_3 (c : Dev nD) (t : Fin cfg0.N) (d) : (dats m 0 c).before 3 t d = iblk m c 3 t :=
  before0_3_of m (dats m 0 c) (A_eq m c 3) (after_3 m c) t d
/-- The body finds window 4's block in its buffer. -/
theorem before_4 (c : Dev nD) (t : Fin cfg0.N) (d) : (dats m 0 c).before 4 t d = iblk m c 4 t :=
  before0_4_of m (dats m 0 c) (A_eq m c 4) (after_4 m c) t d
/-- The body finds window 5's block in its buffer. -/
theorem before_5 (c : Dev nD) (t : Fin cfg0.N) (d) : (dats m 0 c).before 5 t d = iblk m c 5 t :=
  before0_5_of m (dats m 0 c) (A_eq m c 5) (after_5 m c) t d
/-- The body finds window 6's block in its buffer. -/
theorem before_6 (c : Dev nD) (t : Fin cfg0.N) (d) : (dats m 0 c).before 6 t d = iblk m c 6 t :=
  before0_6_of m (dats m 0 c) (A_eq m c 6) (after_6 m c) t d
/-- The body finds window 7's block in its buffer. -/
theorem before_7 (c : Dev nD) (t : Fin cfg0.N) (d) : (dats m 0 c).before 7 t d = iblk m c 7 t :=
  before0_7_of m (dats m 0 c) (A_eq m c 7) (after_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t))

/-- The body at any point, from `body_run` at the operands' blocks. -/
theorem body_at (c : Dev nD) (t : Fin cfg0.N) :
    bodyPre m c t ⊢ wp Idealize.ShloMosaic.frame (wpE (defs₀ (F := F)) 𝒱₀ c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, inv_eq]
  unfold flags
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem row_eq (t : Fin cfg0.N) : defs₀ (F := F) .tc cfg0.body (cfg0.bodyArgs t (cfg0.slots t)) = bodyAt0 t := by
  unfold defs₀; rw [Defs.onTc_tc]

/-- The obligation the launch asks of the body, at every point. -/
theorem body_obligation (c : Dev nD) : BodyObligation (dats (F := F) m 0 c) (defs₀ (F := F)) 𝒱₀ () Set.univ := fun t => by
  rw [bigSep_W0, bigSep_W0, row_eq]
  exact triple_restated (body_at m c t) rfl .rfl fun _ => .rfl

set_option backward.isDefEq.respectTransparency.types false in
set_option maxHeartbeats 800000 in
/-- THE RUN: from any memory @main ends in a state `FramePost` describes, with every semaphore at zero. -/
theorem run_quiet : θ_run defs (onTc (τ := τ) (main (F := F))) (s₀ m ρ) (fun r => (Pipeline.FramePost cfgs (dats m) 0 (Pipeline.afterTail₀ cfgs (dats m) 0 (V0 m)
    [hostOps1, hostOps1_1, hostOps1_2, hostOps1_3, hostOps1_4, hostOps1_5, hostOps1_6, hostOps1_7, hostOps1_8])) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8])
    (hsub := sfx_sub) (hfresh := sfx_fresh) (hkeep := sfx_keeps)
    (hmain := hmain m 𝒱₀) (hA := A_eq m) (hΦ := fun _ _ => rfl)

/-- The run without the semaphores. -/
theorem run_main : θ_run defs (onTc (τ := τ) (main (F := F))) (s₀ m ρ) (Pipeline.FramePost cfgs (dats m) 0 (Pipeline.afterTail₀ cfgs (dats m) 0 (V0 m)
    [hostOps1, hostOps1_1, hostOps1_2, hostOps1_3, hostOps1_4, hostOps1_5, hostOps1_6, hostOps1_7, hostOps1_8])) :=
  (θ_run defs _ _).mono (fun _ h => h.1) (run_quiet m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end unchanged and no semaphore is left raised. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiet m ρ))

end Cert.Proof.PI

end
-- ==== Proof.R.Frame.lean ====
/-
  THE REFERENCE'S RUN, from its generated fold: a buffer that neither the lines before the loop, nor a trip, nor the
  lines after it write ends as it began; so the arguments end unchanged.
-/
module

public import proofs.«01_k».proof.Proof.Gen.ReferenceIdeal.Run
public import Idealize.ShloMosaic.Lib.Quiescent

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- What one trip of the loop writes. -/
abbrev tripWrites : List (Ref sig .tc) := condOps_W ++ while0Ops0_W ++ while0Ops0_1_W

/-- A buffer no trip writes holds, before every trip, what it held at the loop's entry. -/
theorem atK_keep (c : Dev nD) (r : Ref sig .tc) (h : r ∉ tripWrites) : ∀ k,
    atK m k c (Proc.devRef .tc r) = entryContents preI m c (Proc.devRef .tc r)
  | 0 => rfl
  | k + 1 => by
    simp only [tripWrites, List.mem_append, not_or] at h
    rw [show atK m (k + 1) c = afterL bodyI (after condOps (atK m k c)) from rfl]
    change after while0Ops0_1 (after while0Ops0 (after condOps (atK m k c))) (Proc.devRef .tc r) = _
    rw [after_of_writes_sub while0Ops0_1 _ while0Ops0_1_writes h.2, after_of_writes_sub while0Ops0 _ while0Ops0_writes h.1.2,
      after_of_writes_sub condOps _ condOps_writes h.1.1, atK_keep c r (by simp only [tripWrites, List.mem_append, not_or]; exact h) k]

/-- The same after the loop. -/
theorem loop_keep (c : Dev nD) (r : Ref sig .tc) (h : r ∉ tripWrites) (k : ℕ) :
    after condOps (atK m k c) (Proc.devRef .tc r) = entryContents preI m c (Proc.devRef .tc r) := by
  rw [after_of_writes_sub condOps _ condOps_writes (fun hm => h (List.mem_append_left _ (List.mem_append_left _ hm))), atK_keep m c r h k]

/-- What the lines before the loop write. -/
abbrev preWrites : List (Ref sig .tc) :=
  hostOps0_W ++ hostOps0_1_W ++ hostOps0_2_W ++ hostOps0_3_W ++ hostOps0_4_W ++ hostOps0_5_W ++ hostOps0_6_W ++ hostOps0_7_W ++ hostOps0_8_W

/-- A buffer the lines before the loop do not write holds what it held at the launch. -/
theorem entry_keep (c : Dev nD) (r : Ref sig .tc) (h : r ∉ preWrites) :
    entryContents preI m c (Proc.devRef .tc r) = m ((c.tc : Thread nD τ).loc r) := by
  simp only [preWrites, List.mem_append, not_or] at h
  obtain ⟨⟨⟨⟨⟨⟨⟨⟨h0, h1⟩, h2⟩, h3⟩, h4⟩, h5⟩, h6⟩, h7⟩, h8⟩ := h
  change after hostOps0_8 (after hostOps0_7 (after hostOps0_6 (after hostOps0_5 (after hostOps0_4 (after hostOps0_3
    (after hostOps0_2 (after hostOps0_1 (after hostOps0 (launchContents m c))))))))) (Proc.devRef .tc r) = _
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What `hostOps0_9` writes. -/
abbrev hostOps0_9_W : List (Ref sig .tc) := [main_cst_6]
/-- `hostOps0_9` writes only these. -/
theorem hostOps0_9_writes : (hostOps0_9 : List (HloOp τ sig (Elt F))).Forall fun op => op.writes ⊆ (hostOps0_9_W.map (Proc.devRef (τ := τ) .tc)).toFinset :=
  StableHlo.forall_writes_sub_of_map rfl

/-- What `hostOps0_10` writes. -/
abbrev hostOps0_10_W : List (Ref sig .tc) := [main_call5_v0, main_call5_v1, main_v82]
/-- `hostOps0_10` writes only these. -/
theorem hostOps0_10_writes : (hostOps0_10 : List (HloOp τ sig (Elt F))).Forall fun op => op.writes ⊆ (hostOps0_10_W.map (Proc.devRef (τ := τ) .tc)).toFinset :=
  StableHlo.forall_writes_sub_of_map rfl

/-- What `hostOps0_11` writes. -/
abbrev hostOps0_11_W : List (Ref sig .tc) := [main_values_7, main_indices_8]
/-- `hostOps0_11` writes only these. -/
theorem hostOps0_11_writes : (hostOps0_11 : List (HloOp τ sig (Elt F))).Forall fun op => op.writes ⊆ (hostOps0_11_W.map (Proc.devRef (τ := τ) .tc)).toFinset :=
  StableHlo.forall_writes_sub_of_map rfl

/-- What `hostOps0_12` writes. -/
abbrev hostOps0_12_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v83]
/-- `hostOps0_12` writes only these. -/
theorem hostOps0_12_writes : (hostOps0_12 : List (HloOp τ sig (Elt F))).Forall fun op => op.writes ⊆ (hostOps0_12_W.map (Proc.devRef (τ := τ) .tc)).toFinset :=
  StableHlo.forall_writes_sub_of_map rfl

/-- What `hostOps0_13` writes. -/
abbrev hostOps0_13_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_c_4, main_call7_v14, main_v84]
/-- `hostOps0_13` writes only these. -/
theorem hostOps0_13_writes : (hostOps0_13 : List (HloOp τ sig (Elt F))).Forall fun op => op.writes ⊆ (hostOps0_13_W.map (Proc.devRef (τ := τ) .tc)).toFinset :=
  StableHlo.forall_writes_sub_of_map rfl

/-- What `hostOps0_14` writes. -/
abbrev hostOps0_14_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v85]
/-- `hostOps0_14` writes only these. -/
theorem hostOps0_14_writes : (hostOps0_14 : List (HloOp τ sig (Elt F))).Forall fun op => op.writes ⊆ (hostOps0_14_W.map (Proc.devRef (τ := τ) .tc)).toFinset :=
  StableHlo.forall_writes_sub_of_map rfl

/-- What `hostOps0_15` writes. -/
abbrev hostOps0_15_W : List (Ref sig .tc) := [main_cst_9]
/-- `hostOps0_15` writes only these. -/
theorem hostOps0_15_writes : (hostOps0_15 : List (HloOp τ sig (Elt F))).Forall fun op => op.writes ⊆ (hostOps0_15_W.map (Proc.devRef (τ := τ) .tc)).toFinset :=
  StableHlo.forall_writes_sub_of_map rfl

/-- What `hostOps0_16` writes. -/
abbrev hostOps0_16_W : List (Ref sig .tc) := [main_call9_v0, main_call9_v1, main_v86]
/-- `hostOps0_16` writes only these. -/
theorem hostOps0_16_writes : (hostOps0_16 : List (HloOp τ sig (Elt F))).Forall fun op => op.writes ⊆ (hostOps0_16_W.map (Proc.devRef (τ := τ) .tc)).toFinset :=
  StableHlo.forall_writes_sub_of_map rfl

/-- What `hostOps0_17` writes. -/
abbrev hostOps0_17_W : List (Ref sig .tc) := [main_v87, main_v88]
/-- `hostOps0_17` writes only these. -/
theorem hostOps0_17_writes : (hostOps0_17 : List (HloOp τ sig (Elt F))).Forall fun op => op.writes ⊆ (hostOps0_17_W.map (Proc.devRef (τ := τ) .tc)).toFinset :=
  StableHlo.forall_writes_sub_of_map rfl

/-- What the lines after the loop write. -/
abbrev postWrites : List (Ref sig .tc) :=
  hostOps0_9_W ++ hostOps0_10_W ++ hostOps0_11_W ++ hostOps0_12_W ++ hostOps0_13_W ++ hostOps0_14_W ++ hostOps0_15_W ++ hostOps0_16_W ++ hostOps0_17_W

/-- A buffer the lines after the loop do not write ends as the loop left it. -/
theorem post_keep (V : Valuation τ sig (Elt F)) (r : Ref sig .tc) (h : r ∉ postWrites) :
    afterL postI V (Proc.devRef .tc r) = V (Proc.devRef .tc r) := by
  simp only [postWrites, List.mem_append, not_or] at h
  obtain ⟨⟨⟨⟨⟨⟨⟨⟨h0, h1⟩, h2⟩, h3⟩, h4⟩, h5⟩, h6⟩, h7⟩, h8⟩ := h
  change after hostOps0_17 (after hostOps0_16 (after hostOps0_15 (after hostOps0_14 (after hostOps0_13 (after hostOps0_12
    (after hostOps0_11 (after hostOps0_10 (after hostOps0_9 V)))))))) (Proc.devRef .tc r) = _
  rw [after_of_writes_sub hostOps0_17 _ hostOps0_17_writes h8, after_of_writes_sub hostOps0_16 _ hostOps0_16_writes h7,
    after_of_writes_sub hostOps0_15 _ hostOps0_15_writes h6, after_of_writes_sub hostOps0_14 _ hostOps0_14_writes h5,
    after_of_writes_sub hostOps0_13 _ hostOps0_13_writes h4, after_of_writes_sub hostOps0_12 _ hostOps0_12_writes h3,
    after_of_writes_sub hostOps0_11 _ hostOps0_11_writes h2, after_of_writes_sub hostOps0_10 _ hostOps0_10_writes h1,
    after_of_writes_sub hostOps0_9 _ hostOps0_9_writes h0]

/-- A buffer no line writes ends as it began. -/
theorem final_keep (c : Dev nD) (r : Ref sig .tc) (h₀ : r ∉ preWrites) (h₁ : r ∉ tripWrites) (h₂ : r ∉ postWrites) :
    finalContents condOps preI bodyI postI 2000 m c (Proc.devRef .tc r) = m ((c.tc : Thread nD τ).loc r) :=
  (post_keep _ r h₂).trans ((loop_keep m c r h₁ 2000).trans (entry_keep m c r h₀))

/-- The first argument is written nowhere. -/
theorem final_arg0 (c : Dev nD) : finalContents condOps preI bodyI postI 2000 m c (Proc.devRef .tc main_arg0)
    = m ((c.tc : Thread nD τ).loc main_arg0) :=
  final_keep m c main_arg0 (by decide +kernel) (by decide +kernel) (by decide +kernel)

/-- The second argument is written nowhere. -/
theorem final_arg1 (c : Dev nD) : finalContents condOps preI bodyI postI 2000 m c (Proc.devRef .tc main_arg1)
    = m ((c.tc : Thread nD τ).loc main_arg1) :=
  final_keep m c main_arg1 (by decide +kernel) (by decide +kernel) (by decide +kernel)

/-- The arguments end unchanged and no semaphore is left raised: the program declares none. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 rfl).trans (final_arg0 m c), (h c main_arg1 rfl).trans (final_arg1 m c)⟩,
    sem_eq_zero_of_no_sems (by decide) r.2⟩) (run_fold m ρ)

end Cert.Proof.R

end
-- ==== Proof.V.Host.lean ====
/-
  THE HOST'S STEPS AROUND THE SUPPRESSION, as functions of values: the corners and scores, the best 2000, the rows they
  name, and what becomes of the kept flags. Both programs take these steps.
-/
module

public import proofs.«01_k».proof.Proof.Gen.KernelIdeal
public import proofs.«01_k».proof.KernelIdeal

@[expose] public section

noncomputable section

namespace Cert.Proof.V

open Cert.KernelIdeal Cert.KernelIdeal.Gen
open Idealize.ShloMosaic Idealize.ShloMosaic.TcCoe

variable {F : FTy → Type} [FloatOps F]

/-! ## Corners and scores of all 20000 boxes -/

/-- Column `0`. -/
def col0 (a : FVec F S20000x4 .f32) : FVec F S20000 .f32 :=
  shapeCast S20000 (extractStridedSlice S20000x1 ![0, 0] a slices_S20000x4_S20000x1_0_0) shapeCasts_S20000x1_S20000
/-- Column `1`. -/
def col1 (a : FVec F S20000x4 .f32) : FVec F S20000 .f32 :=
  shapeCast S20000 (extractStridedSlice S20000x1 ![0, 1] a slices_S20000x4_S20000x1_0_1) shapeCasts_S20000x1_S20000
/-- Column `2`. -/
def col2 (a : FVec F S20000x4 .f32) : FVec F S20000 .f32 :=
  shapeCast S20000 (extractStridedSlice S20000x1 ![0, 2] a slices_S20000x4_S20000x1_0_2) shapeCasts_S20000x1_S20000
/-- Column `3`. -/
def col3 (a : FVec F S20000x4 .f32) : FVec F S20000 .f32 :=
  shapeCast S20000 (extractStridedSlice S20000x1 ![0, 3] a slices_S20000x4_S20000x1_0_3) shapeCasts_S20000x1_S20000

/-- The corners in order: the lesser and the greater of each pair. -/
def cx1 (a : FVec F S20000x4 .f32) : FVec F S20000 .f32 := minimumf (col0 a) (col2 a)
/-- See `cx1`. -/
def cy1 (a : FVec F S20000x4 .f32) : FVec F S20000 .f32 := minimumf (col1 a) (col3 a)
/-- See `cx1`. -/
def cx2 (a : FVec F S20000x4 .f32) : FVec F S20000 .f32 := maximumf (col0 a) (col2 a)
/-- See `cx1`. -/
def cy2 (a : FVec F S20000x4 .f32) : FVec F S20000 .f32 := maximumf (col1 a) (col3 a)

/-- The scores, the degenerate boxes' replaced by a very small number. -/
def score (a : FVec F S20000x4 .f32) (s : FVec F S20000 .f32) : FVec F S20000 .f32 :=
  select (andi (cmpf .ogt (subf (cx2 a) (cx1 a)) (broadcastInDim S20000 ![] bcast_S_S20000 (constant S_ .f32 0x00000000#32)))
      (cmpf .ogt (subf (cy2 a) (cy1 a)) (broadcastInDim S20000 ![] bcast_S_S20000 (constant S_ .f32 0x00000000#32))))
    s (broadcastInDim S20000 ![] bcast_S_S20000 (constant S_ .f32 0xF149F2CA#32))

/-- The best 2000 scores. -/
def best (a : FVec F S20000x4 .f32) (s : FVec F S20000 .f32) : FVec F S2000 .f32 :=
  (Host.topK S2000 0 (FloatOps.cmpfTotal .gt) (score a s) sliceFits_S20000_S2000).1
/-- Their indices. -/
def bestAt (a : FVec F S20000x4 .f32) (s : FVec F S20000 .f32) : IVec S2000 32 :=
  (Host.topK S2000 0 (FloatOps.cmpfTotal .gt) (score a s) sliceFits_S20000_S2000).2

/-! ## Taking rows by index -/

/-- The indices with a negative one counted from the end, as start indices. -/
def starts (i : IVec S2000 32) : IVec S2000x1 32 :=
  broadcastInDim S2000x1 ![0] bcast_S2000_S2000x1_0
    (select (cmpi .slt i (broadcastInDim S2000 ![] bcast_S_S2000 (constantI S_ 32 0#32)))
      (addi i (broadcastInDim S2000 ![] bcast_S_S2000 (constantI S_ 32 20000#32))) i)

/-- Which start indices are in range. -/
def inRange (j : IVec S2000x1 32) : IVec S2000 1 :=
  Host.reduce IntOp.andi
    (andi (cmpi .sge j (broadcastInDim S2000x1 ![] bcast_S_S2000x1 (constantI S_ 32 0#32)))
      (cmpi .sle j (broadcastInDim S2000x1 ![0, 1] bcast_S1x1_S2000x1_0_1 (broadcastInDim S1x1 ![1] bcast_S1_S1x1_1 (constantI S1 32 19999#32)))))
    (constantI S_ 1 1#1) reducesTo_S2000x1_S2000_d1 h_S_

/-- Entries of a column taken by index. -/
def takeCol (x : FVec F S20000 .f32) (i : IVec S2000 32) : FVec F S2000 .f32 :=
  select (inRange (starts i)) (Host.gather gather_S20000_S2000x1_S2000_n_0_n_n_0_1_1 x (starts i))
    (broadcastInDim S2000 ![] bcast_S_S2000 (constant S_ .f32 0x7FC00000#32))

/-- The 2000 boxes as rows, from their four columns. -/
def stack (a b c d : FVec F S2000 .f32) : FVec F S2000x4 .f32 :=
  concatenate S2000x4 1 [⟨S2000x1, broadcastInDim S2000x1 ![0] bcast_S2000_S2000x1_0 a⟩, ⟨S2000x1, broadcastInDim S2000x1 ![0] bcast_S2000_S2000x1_0 b⟩,
    ⟨S2000x1, broadcastInDim S2000x1 ![0] bcast_S2000_S2000x1_0 c⟩, ⟨S2000x1, broadcastInDim S2000x1 ![0] bcast_S2000_S2000x1_0 d⟩]
    concatenates_S2000x1_S2000x1_S2000x1_S2000x1_S2000x4_d1

/-! ## From the kept flags to the result -/

/-- The best 1000 of the kept scores, by index. -/
def lastAt (keep : IVec S2000 1) (vals : FVec F S2000 .f32) : IVec S1000 32 :=
  (Host.topK S1000 0 (FloatOps.cmpfTotal .gt)
    (select keep vals (broadcastInDim S2000 ![] bcast_S_S2000 (constant S_ .f32 0xF149F2CA#32))) sliceFits_S2000_S1000).2

/-- `starts` for 1000 indices into 2000. -/
def starts' (i : IVec S1000 32) : IVec S1000x1 32 :=
  broadcastInDim S1000x1 ![0] bcast_S1000_S1000x1_0
    (select (cmpi .slt i (broadcastInDim S1000 ![] bcast_S_S1000 (constantI S_ 32 0#32)))
      (addi i (broadcastInDim S1000 ![] bcast_S_S1000 (constantI S_ 32 2000#32))) i)

/-- `inRange` for 1000 indices into 2000. -/
def inRange' (j : IVec S1000x1 32) : IVec S1000 1 :=
  Host.reduce IntOp.andi
    (andi (cmpi .sge j (broadcastInDim S1000x1 ![] bcast_S_S1000x1 (constantI S_ 32 0#32)))
      (cmpi .sle j (broadcastInDim S1000x1 ![0, 1] bcast_S1x1_S1000x1_0_1 (broadcastInDim S1x1 ![1] bcast_S1_S1x1_1 (constantI S1 32 1999#32)))))
    (constantI S_ 1 1#1) reducesTo_S1000x1_S1000_d1 h_S_

/-- Rows of the 2000 boxes taken by index. -/
def lastBoxes (boxes : FVec F S2000x4 .f32) (i : IVec S1000 32) : FVec F S1000x4 .f32 :=
  select (broadcastInDim S1000x4 ![0] bcast_S1000_S1000x4_0 (inRange' (starts' i)))
    (Host.gather gather_S2000x4_S1000x1_S1000x4_1_0_n_n_0_1_14 boxes (starts' i))
    (broadcastInDim S1000x4 ![] bcast_S_S1000x4 (constant S_ .f32 0x7FC00000#32))

/-- Kept flags taken by index. -/
def lastKeep (keep : IVec S2000 1) (i : IVec S1000 32) : IVec S1000 1 :=
  select (inRange' (starts' i)) (Host.gather gather_S2000_S1000x1_S1000_n_0_n_n_0_1_1 keep (starts' i))
    (broadcastInDim S1000 ![] bcast_S_S1000 (constantI S_ 1 1#1))

/-- Scores taken by index. -/
def lastVals (vals : FVec F S2000 .f32) (i : IVec S1000 32) : FVec F S1000 .f32 :=
  select (inRange' (starts' i)) (Host.gather gather_S2000_S1000x1_S1000_n_0_n_n_0_1_1 vals (starts' i))
    (broadcastInDim S1000 ![] bcast_S_S1000 (constant S_ .f32 0x7FC00000#32))

/-- Boxes and scores side by side, the scores of boxes not kept replaced by zero. -/
def sideBySide (b : FVec F S1000x4 .f32) (k : IVec S1000 1) (v : FVec F S1000 .f32) : FVec F S1000x5 .f32 :=
  concatenate S1000x5 1 [⟨S1000x4, b⟩, ⟨S1000x1, broadcastInDim S1000x1 ![0] bcast_S1000_S1000x1_0
    (select k v (broadcastInDim S1000 ![] bcast_S_S1000 (constant S_ .f32 0x00000000#32)))⟩] concatenates_S1000x4_S1000x1_S1000x5_d1

/-- The result, from the kept flags, the best scores and their boxes. -/
def result (keep : IVec S2000 1) (vals : FVec F S2000 .f32) (boxes : FVec F S2000x4 .f32) : FVec F S1000x5 .f32 :=
  sideBySide (lastBoxes boxes (lastAt keep vals)) (lastKeep keep (lastAt keep vals)) (lastVals vals (lastAt keep vals))

end Cert.Proof.V

end
-- ==== Proof.V.RHost.lean ====
/-
  WHAT THE REFERENCE PROGRAM'S HOST LINES COMPUTE, named by the functions of Host.lean: before its loop the best scores,
  their boxes and the matrix of overlaps, after the loop the result.
-/
module

public import proofs.«01_k».proof.Proof.V.Host
public import proofs.«01_k».proof.Proof.R.Frame
public import Idealize.ShloMosaic.Lib.StableHlo.RunRead

@[expose] public section

set_option maxRecDepth 16384

noncomputable section

namespace Cert.Proof.V

open Cert.ReferenceIdeal Cert.ReferenceIdeal.Gen Cert.ReferenceIdeal.Value
open Idealize.ShloMosaic Idealize.ShloMosaic.TcCoe Idealize.ShloMosaic.StableHlo
open Cert.Proof.R

variable {F : FTy → Type} [FloatOps F]

/-- The boxes with their corners in order, one to a row. -/
def corners (a : FVec F S20000x4 .f32) : FVec F S20000x4 .f32 :=
  concatenate S20000x4 1 [⟨S20000x1, broadcastInDim S20000x1 ![0] bcast_S20000_S20000x1_0 (cx1 a)⟩, ⟨S20000x1, broadcastInDim S20000x1 ![0] bcast_S20000_S20000x1_0 (cy1 a)⟩,
    ⟨S20000x1, broadcastInDim S20000x1 ![0] bcast_S20000_S20000x1_0 (cx2 a)⟩, ⟨S20000x1, broadcastInDim S20000x1 ![0] bcast_S20000_S20000x1_0 (cy2 a)⟩]
    concatenates_S20000x1_S20000x1_S20000x1_S20000x1_S20000x4_d1

/-- Rows taken by index. -/
def takeRows (x : FVec F S20000x4 .f32) (i : IVec S2000 32) : FVec F S2000x4 .f32 :=
  select (broadcastInDim S2000x4 ![0] bcast_S2000_S2000x4_0 (inRange (starts i)))
    (Host.gather gather_S20000x4_S2000x1_S2000x4_1_0_n_n_0_1_14 x (starts i))
    (broadcastInDim S2000x4 ![] bcast_S_S2000x4 (constant S_ .f32 0x7FC00000#32))

/-- Column `0` of the boxes. -/
def bx1 (b : FVec F S2000x4 .f32) : FVec F S2000 .f32 := shapeCast S2000 (extractStridedSlice S2000x1 ![0, 0] b slices_S2000x4_S2000x1_0_0) shapeCasts_S2000x1_S2000
/-- Column `1` of the boxes. -/
def by1 (b : FVec F S2000x4 .f32) : FVec F S2000 .f32 := shapeCast S2000 (extractStridedSlice S2000x1 ![0, 1] b slices_S2000x4_S2000x1_0_1) shapeCasts_S2000x1_S2000
/-- Column `2` of the boxes. -/
def bx2 (b : FVec F S2000x4 .f32) : FVec F S2000 .f32 := shapeCast S2000 (extractStridedSlice S2000x1 ![0, 2] b slices_S2000x4_S2000x1_0_2) shapeCasts_S2000x1_S2000
/-- Column `3` of the boxes. -/
def by2 (b : FVec F S2000x4 .f32) : FVec F S2000 .f32 := shapeCast S2000 (extractStridedSlice S2000x1 ![0, 3] b slices_S2000x4_S2000x1_0_3) shapeCasts_S2000x1_S2000

/-- A vector along the rows of the matrix of pairs. -/
def down (x : FVec F S2000 .f32) : FVec F S2000x2000 .f32 :=
  broadcastInDim S2000x2000 ![0, 1] bcast_S2000x1_S2000x2000_0_1 (broadcastInDim S2000x1 ![0] bcast_S2000_S2000x1_0 x)
/-- A vector along its columns. -/
def across (x : FVec F S2000 .f32) : FVec F S2000x2000 .f32 :=
  broadcastInDim S2000x2000 ![0, 1] bcast_S1x2000_S2000x2000_0_1 (broadcastInDim S1x2000 ![1] bcast_S2000_S1x2000_1 x)
/-- One number everywhere in the matrix. -/
def everywhere (b : BitVec 32) : FVec F S2000x2000 .f32 := broadcastInDim S2000x2000 ![] bcast_S_S2000x2000 (constant S_ .f32 b)

/-- The widths of the pairs' common parts. -/
def wide (b : FVec F S2000x4 .f32) : FVec F S2000x2000 .f32 :=
  maximumf (everywhere 0x00000000#32) (subf (minimumf (down (bx2 b)) (across (bx2 b))) (maximumf (down (bx1 b)) (across (bx1 b))))
/-- Their heights. -/
def high (b : FVec F S2000x4 .f32) : FVec F S2000x2000 .f32 :=
  maximumf (everywhere 0x00000000#32) (subf (minimumf (down (by2 b)) (across (by2 b))) (maximumf (down (by1 b)) (across (by1 b))))
/-- The boxes' areas. -/
def areas (b : FVec F S2000x4 .f32) : FVec F S2000 .f32 := mulf (subf (bx2 b) (bx1 b)) (subf (by2 b) (by1 b))
/-- The overlaps of all pairs of boxes. -/
def overlaps (b : FVec F S2000x4 .f32) : FVec F S2000x2000 .f32 :=
  Host.divf (mulf (wide b) (high b)) (addf (subf (addf (down (areas b)) (across (areas b))) (mulf (wide b) (high b))) (everywhere 0x3089705F#32))

/-! ## The stretches before the loop -/

variable (V : Valuation τ sig (Elt F))

/-- What `main_v24` holds after the stretch that writes it. -/
theorem r0_v24 : after hostOps0 V (Proc.devRef .tc main_v24) = corners (V (Proc.devRef .tc main_arg0)) := by
  after_reads_simp
  rfl

/-- What `main_v32` holds after the stretch that writes it. -/
theorem r1_v32 : after hostOps0_1 (after hostOps0 V) (Proc.devRef .tc main_v32) = score (V (Proc.devRef .tc main_arg0)) (V (Proc.devRef .tc main_arg1)) := by
  after_reads_simp
  rfl

/-- What `main_values` holds after the stretch that writes it. -/
theorem r2_values : after hostOps0_2 V (Proc.devRef .tc main_values) = (Host.topK S2000 0 (FloatOps.cmpfTotal .gt) (V (Proc.devRef .tc main_v32)) sliceFits_S20000_S2000).1 := by
  after_reads_simp

/-- What `main_indices` holds after the stretch that writes it. -/
theorem r2_indices : after hostOps0_2 V (Proc.devRef .tc main_indices) = (Host.topK S2000 0 (FloatOps.cmpfTotal .gt) (V (Proc.devRef .tc main_v32)) sliceFits_S20000_S2000).2 := by
  after_reads_simp

/-- What `main_v33` holds after the stretch that writes it. -/
theorem r3_v33 : after hostOps0_3 V (Proc.devRef .tc main_v33) = takeRows (V (Proc.devRef .tc main_v24)) (V (Proc.devRef .tc main_indices)) := by
  after_reads_simp
  rfl

/-- What `main_v44` holds after the stretch that writes it. -/
theorem r4_v44 : after hostOps0_4 V (Proc.devRef .tc main_v44) = areas (V (Proc.devRef .tc main_v33)) := by
  after_reads_simp
  rfl

/-- What `main_v54` holds after the stretch that writes it. -/
theorem r4_v54 : after hostOps0_4 V (Proc.devRef .tc main_v54) = maximumf (down (by1 (V (Proc.devRef .tc main_v33)))) (across (by1 (V (Proc.devRef .tc main_v33)))) := by
  after_reads_simp
  rfl

/-- What `main_v64` holds after the stretch that writes it. -/
theorem r4_v64 : after hostOps0_4 V (Proc.devRef .tc main_v64) = minimumf (down (by2 (V (Proc.devRef .tc main_v33)))) (across (by2 (V (Proc.devRef .tc main_v33)))) := by
  after_reads_simp
  rfl

/-- What `main_v66` holds after the stretch that writes it. -/
theorem r5_v66 : after hostOps0_5 (after hostOps0_4 V) (Proc.devRef .tc main_v66) = wide (V (Proc.devRef .tc main_v33)) := by
  after_reads_simp
  rfl

/-- What `main_v68` holds after the stretch that writes it. -/
theorem r7_v68 : after hostOps0_7 (after hostOps0_6 V) (Proc.devRef .tc main_v68) = maximumf (everywhere 0x00000000#32) (subf (V (Proc.devRef .tc main_v64)) (V (Proc.devRef .tc main_v54))) := by
  after_reads_simp
  rfl

/-- What `main_v81_1` holds after the stretch that writes it. -/
theorem r8_v81_1 : after hostOps0_8 V (Proc.devRef .tc main_v81_1) = Host.divf (mulf (V (Proc.devRef .tc main_v66)) (V (Proc.devRef .tc main_v68))) (addf (subf (addf (down (V (Proc.devRef .tc main_v44))) (across (V (Proc.devRef .tc main_v44)))) (mulf (V (Proc.devRef .tc main_v66)) (V (Proc.devRef .tc main_v68)))) (everywhere 0x3089705F#32)) := by
  after_reads_simp
  rfl

/-- What `main_v81_0` holds after the stretch that writes it. -/
theorem r8_v81_0 : after hostOps0_8 V (Proc.devRef .tc main_v81_0) = iotaInDim S2000 32 0 := by
  after_reads_simp
  rfl

/-- What `main_v81_2` holds after the stretch that writes it. -/
theorem r8_v81_2 : after hostOps0_8 V (Proc.devRef .tc main_v81_2) = iotaInDim S2000 32 0 := by
  after_reads_simp
  rfl

/-- What `main_v81_4` holds after the stretch that writes it. -/
theorem r8_v81_4 : after hostOps0_8 V (Proc.devRef .tc main_v81_4) = broadcastInDim S2000 ![] bcast_S_S2000 (constantI S_ 1 1#1) := by
  after_reads_simp
  rfl

/-- The stretch leaves alone every buffer it does not write. -/
theorem rk0 (r : Ref sig .tc) (h : r ∉ hostOps0_W) : after hostOps0 V (Proc.devRef .tc r) = V (Proc.devRef .tc r) :=
  after_of_writes_sub hostOps0 V hostOps0_writes h

/-- The stretch leaves alone every buffer it does not write. -/
theorem rk1 (r : Ref sig .tc) (h : r ∉ hostOps0_1_W) : after hostOps0_1 V (Proc.devRef .tc r) = V (Proc.devRef .tc r) :=
  after_of_writes_sub hostOps0_1 V hostOps0_1_writes h

/-- The stretch leaves alone every buffer it does not write. -/
theorem rk2 (r : Ref sig .tc) (h : r ∉ hostOps0_2_W) : after hostOps0_2 V (Proc.devRef .tc r) = V (Proc.devRef .tc r) :=
  after_of_writes_sub hostOps0_2 V hostOps0_2_writes h

/-- The stretch leaves alone every buffer it does not write. -/
theorem rk3 (r : Ref sig .tc) (h : r ∉ hostOps0_3_W) : after hostOps0_3 V (Proc.devRef .tc r) = V (Proc.devRef .tc r) :=
  after_of_writes_sub hostOps0_3 V hostOps0_3_writes h

/-- The stretch leaves alone every buffer it does not write. -/
theorem rk4 (r : Ref sig .tc) (h : r ∉ hostOps0_4_W) : after hostOps0_4 V (Proc.devRef .tc r) = V (Proc.devRef .tc r) :=
  after_of_writes_sub hostOps0_4 V hostOps0_4_writes h

/-- The stretch leaves alone every buffer it does not write. -/
theorem rk5 (r : Ref sig .tc) (h : r ∉ hostOps0_5_W) : after hostOps0_5 V (Proc.devRef .tc r) = V (Proc.devRef .tc r) :=
  after_of_writes_sub hostOps0_5 V hostOps0_5_writes h

/-- The stretch leaves alone every buffer it does not write. -/
theorem rk6 (r : Ref sig .tc) (h : r ∉ hostOps0_6_W) : after hostOps0_6 V (Proc.devRef .tc r) = V (Proc.devRef .tc r) :=
  after_of_writes_sub hostOps0_6 V hostOps0_6_writes h

/-- The stretch leaves alone every buffer it does not write. -/
theorem rk7 (r : Ref sig .tc) (h : r ∉ hostOps0_7_W) : after hostOps0_7 V (Proc.devRef .tc r) = V (Proc.devRef .tc r) :=
  after_of_writes_sub hostOps0_7 V hostOps0_7_writes h

/-- The stretch leaves alone every buffer it does not write. -/
theorem rk8 (r : Ref sig .tc) (h : r ∉ hostOps0_8_W) : after hostOps0_8 V (Proc.devRef .tc r) = V (Proc.devRef .tc r) :=
  after_of_writes_sub hostOps0_8 V hostOps0_8_writes h

/-- The best scores, before the loop. -/
theorem entry_values : afterL preI V (Proc.devRef .tc main_values)
    = best (V (Proc.devRef .tc main_arg0)) (V (Proc.devRef .tc main_arg1)) := by
  simp only [afterL_cons, afterL_nil]
  rw [rk8 _ main_values (by decide +kernel), rk7 _ main_values (by decide +kernel), rk6 _ main_values (by decide +kernel), rk5 _ main_values (by decide +kernel), rk4 _ main_values (by decide +kernel), rk3 _ main_values (by decide +kernel), r2_values, r1_v32]
  rfl

/-- The best boxes, before the loop. -/
theorem entry_v33 : afterL preI V (Proc.devRef .tc main_v33)
    = takeRows (corners (V (Proc.devRef .tc main_arg0))) (bestAt (V (Proc.devRef .tc main_arg0)) (V (Proc.devRef .tc main_arg1))) := by
  simp only [afterL_cons, afterL_nil]
  rw [rk8 _ main_v33 (by decide +kernel), rk7 _ main_v33 (by decide +kernel), rk6 _ main_v33 (by decide +kernel), rk5 _ main_v33 (by decide +kernel), rk4 _ main_v33 (by decide +kernel), r3_v33, rk2 _ main_v24 (by decide +kernel), rk1 _ main_v24 (by decide +kernel), r0_v24, r2_indices, r1_v32]
  rfl

/-- The overlaps, before the loop. -/
theorem entry_v81_1 : afterL preI V (Proc.devRef .tc main_v81_1)
    = overlaps (takeRows (corners (V (Proc.devRef .tc main_arg0))) (bestAt (V (Proc.devRef .tc main_arg0)) (V (Proc.devRef .tc main_arg1)))) := by
  simp only [afterL_cons, afterL_nil]
  rw [r8_v81_1, rk7 _ main_v66 (by decide +kernel), rk6 _ main_v66 (by decide +kernel), r5_v66, r7_v68, rk5 _ main_v64 (by decide +kernel), r4_v64, rk5 _ main_v54 (by decide +kernel), r4_v54, rk7 _ main_v44 (by decide +kernel), rk6 _ main_v44 (by decide +kernel), rk5 _ main_v44 (by decide +kernel), r4_v44, r3_v33, rk2 _ main_v24 (by decide +kernel), rk1 _ main_v24 (by decide +kernel), r0_v24, r2_indices, r1_v32]
  rfl

/-- The numbers of the boxes, before the loop. -/
theorem entry_v81_0 : afterL preI V (Proc.devRef .tc main_v81_0)
    = iotaInDim S2000 32 0 := by
  simp only [afterL_cons, afterL_nil]
  rw [r8_v81_0]

/-- The numbers of the boxes, before the loop. -/
theorem entry_v81_2 : afterL preI V (Proc.devRef .tc main_v81_2)
    = iotaInDim S2000 32 0 := by
  simp only [afterL_cons, afterL_nil]
  rw [r8_v81_2]

/-- Every box is kept, before the loop. -/
theorem entry_v81_4 : afterL preI V (Proc.devRef .tc main_v81_4)
    = broadcastInDim S2000 ![] bcast_S_S2000 (constantI S_ 1 1#1) := by
  simp only [afterL_cons, afterL_nil]
  rw [r8_v81_4]

/-! ## The stretches after the loop -/

/-- What `main_v82` holds after the stretch that writes it. -/
theorem t1_v82 : after hostOps0_10 (after hostOps0_9 V) (Proc.devRef .tc main_v82) = select (V (Proc.devRef .tc main_v81_4)) (V (Proc.devRef .tc main_values)) (broadcastInDim S2000 ![] bcast_S_S2000 (constant S_ .f32 0xF149F2CA#32)) := by
  after_reads_simp
  rfl

/-- What `main_indices` holds after the stretch that writes it. -/
theorem t2_indices : after hostOps0_11 V (Proc.devRef .tc main_indices_8) = (Host.topK S1000 0 (FloatOps.cmpfTotal .gt) (V (Proc.devRef .tc main_v82)) sliceFits_S2000_S1000).2 := by
  after_reads_simp

/-- What `main_v83` holds after the stretch that writes it. -/
theorem t3_v83 : after hostOps0_12 V (Proc.devRef .tc main_v83) = lastBoxes (V (Proc.devRef .tc main_v33)) (V (Proc.devRef .tc main_indices_8)) := by
  after_reads_simp
  rfl

/-- What `main_v84` holds after the stretch that writes it. -/
theorem t4_v84 : after hostOps0_13 V (Proc.devRef .tc main_v84) = lastKeep (V (Proc.devRef .tc main_v81_4)) (V (Proc.devRef .tc main_indices_8)) := by
  after_reads_simp
  rfl

/-- What `main_v85` holds after the stretch that writes it. -/
theorem t5_v85 : after hostOps0_14 V (Proc.devRef .tc main_v85) = lastVals (V (Proc.devRef .tc main_values)) (V (Proc.devRef .tc main_indices_8)) := by
  after_reads_simp
  rfl

/-- What `main_v88` holds after the stretch that writes it. -/
theorem t8_v88 : after hostOps0_17 (after hostOps0_16 (after hostOps0_15 V)) (Proc.devRef .tc main_v88) = sideBySide (V (Proc.devRef .tc main_v83)) (V (Proc.devRef .tc main_v84)) (V (Proc.devRef .tc main_v85)) := by
  after_reads_simp
  rfl

/-- The stretch leaves alone every buffer it does not write. -/
theorem rk9 (r : Ref sig .tc) (h : r ∉ hostOps0_9_W) : after hostOps0_9 V (Proc.devRef .tc r) = V (Proc.devRef .tc r) :=
  after_of_writes_sub hostOps0_9 V hostOps0_9_writes h

/-- The stretch leaves alone every buffer it does not write. -/
theorem rk10 (r : Ref sig .tc) (h : r ∉ hostOps0_10_W) : after hostOps0_10 V (Proc.devRef .tc r) = V (Proc.devRef .tc r) :=
  after_of_writes_sub hostOps0_10 V hostOps0_10_writes h

/-- The stretch leaves alone every buffer it does not write. -/
theorem rk11 (r : Ref sig .tc) (h : r ∉ hostOps0_11_W) : after hostOps0_11 V (Proc.devRef .tc r) = V (Proc.devRef .tc r) :=
  after_of_writes_sub hostOps0_11 V hostOps0_11_writes h

/-- The stretch leaves alone every buffer it does not write. -/
theorem rk12 (r : Ref sig .tc) (h : r ∉ hostOps0_12_W) : after hostOps0_12 V (Proc.devRef .tc r) = V (Proc.devRef .tc r) :=
  after_of_writes_sub hostOps0_12 V hostOps0_12_writes h

/-- The stretch leaves alone every buffer it does not write. -/
theorem rk13 (r : Ref sig .tc) (h : r ∉ hostOps0_13_W) : after hostOps0_13 V (Proc.devRef .tc r) = V (Proc.devRef .tc r) :=
  after_of_writes_sub hostOps0_13 V hostOps0_13_writes h

/-- The stretch leaves alone every buffer it does not write. -/
theorem rk14 (r : Ref sig .tc) (h : r ∉ hostOps0_14_W) : after hostOps0_14 V (Proc.devRef .tc r) = V (Proc.devRef .tc r) :=
  after_of_writes_sub hostOps0_14 V hostOps0_14_writes h

/-- The result, after the last line. -/
theorem post_v88 : afterL postI V (Proc.devRef .tc main_v88)
    = result (V (Proc.devRef .tc main_v81_4)) (V (Proc.devRef .tc main_values)) (V (Proc.devRef .tc main_v33)) := by
  simp only [afterL_cons, afterL_nil]
  rw [t8_v88, rk14 _ main_v83 (by decide +kernel), rk13 _ main_v83 (by decide +kernel), t3_v83, rk11 _ main_v33 (by decide +kernel), rk10 _ main_v33 (by decide +kernel), rk9 _ main_v33 (by decide +kernel), t2_indices, t1_v82, rk14 _ main_v84 (by decide +kernel), t4_v84, rk12 _ main_v81_4 (by decide +kernel), rk11 _ main_v81_4 (by decide +kernel), rk10 _ main_v81_4 (by decide +kernel), rk9 _ main_v81_4 (by decide +kernel), rk12 _ main_indices_8 (by decide +kernel), t2_indices, t1_v82, t5_v85, rk13 _ main_values (by decide +kernel), rk12 _ main_values (by decide +kernel), rk11 _ main_values (by decide +kernel), rk10 _ main_values (by decide +kernel), rk9 _ main_values (by decide +kernel), rk13 _ main_indices_8 (by decide +kernel), rk12 _ main_indices_8 (by decide +kernel), t2_indices, t1_v82]
  rfl

end Cert.Proof.V

end
-- ==== Proof.V.KHost.lean ====
/-
  WHAT THE KERNEL PROGRAM'S HOST LINES COMPUTE, named by the functions of Host.lean: before the region the best scores and
  the eight operands, after it the result.
-/
module

public import proofs.«01_k».proof.Proof.V.Host
public import proofs.«01_k».proof.Proof.Gen.KernelIdeal.Frame
public import Idealize.ShloMosaic.Lib.StableHlo.RunRead
public import Idealize.ShloMosaic.Lib.StableHlo.RunLoop

@[expose] public section

set_option maxRecDepth 16384

noncomputable section

namespace Cert.Proof.V

open Cert.KernelIdeal Cert.KernelIdeal.Gen
open Idealize.ShloMosaic Idealize.ShloMosaic.TcCoe Idealize.ShloMosaic.StableHlo

variable {F : FTy → Type} [FloatOps F]

/-! ## What each stretch writes -/

/-- What `hostOps0_1` writes. -/
abbrev hostOps0_1_W : List (Ref sig .tc) := [main_call0_v0, main_call0_v1, main_v27]
/-- `hostOps0_1` writes only these. -/
theorem hostOps0_1_writes : (hostOps0_1 : List (HloOp τ sig (Elt F))).Forall fun op => op.writes ⊆ (hostOps0_1_W.map (Proc.devRef (τ := τ) .tc)).toFinset :=
  StableHlo.forall_writes_sub_of_map rfl

/-- The stretch leaves alone every buffer it does not write. -/
theorem pk1 (V : Valuation τ sig (Elt F)) (r : Ref sig .tc) (h : r ∉ hostOps0_1_W) : after hostOps0_1 V (Proc.devRef .tc r) = V (Proc.devRef .tc r) :=
  after_of_writes_sub hostOps0_1 V hostOps0_1_writes h

/-- What `hostOps0_2` writes. -/
abbrev hostOps0_2_W : List (Ref sig .tc) := [main_values, main_indices]
/-- `hostOps0_2` writes only these. -/
theorem hostOps0_2_writes : (hostOps0_2 : List (HloOp τ sig (Elt F))).Forall fun op => op.writes ⊆ (hostOps0_2_W.map (Proc.devRef (τ := τ) .tc)).toFinset :=
  StableHlo.forall_writes_sub_of_map rfl

/-- The stretch leaves alone every buffer it does not write. -/
theorem pk2 (V : Valuation τ sig (Elt F)) (r : Ref sig .tc) (h : r ∉ hostOps0_2_W) : after hostOps0_2 V (Proc.devRef .tc r) = V (Proc.devRef .tc r) :=
  after_of_writes_sub hostOps0_2 V hostOps0_2_writes h

/-- What `hostOps0_3` writes. -/
abbrev hostOps0_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v28]
/-- `hostOps0_3` writes only these. -/
theorem hostOps0_3_writes : (hostOps0_3 : List (HloOp τ sig (Elt F))).Forall fun op => op.writes ⊆ (hostOps0_3_W.map (Proc.devRef (τ := τ) .tc)).toFinset :=
  StableHlo.forall_writes_sub_of_map rfl

/-- The stretch leaves alone every buffer it does not write. -/
theorem pk3 (V : Valuation τ sig (Elt F)) (r : Ref sig .tc) (h : r ∉ hostOps0_3_W) : after hostOps0_3 V (Proc.devRef .tc r) = V (Proc.devRef .tc r) :=
  after_of_writes_sub hostOps0_3 V hostOps0_3_writes h

/-- What `hostOps0_4` writes. -/
abbrev hostOps0_4_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v29]
/-- `hostOps0_4` writes only these. -/
theorem hostOps0_4_writes : (hostOps0_4 : List (HloOp τ sig (Elt F))).Forall fun op => op.writes ⊆ (hostOps0_4_W.map (Proc.devRef (τ := τ) .tc)).toFinset :=
  StableHlo.forall_writes_sub_of_map rfl

/-- The stretch leaves alone every buffer it does not write. -/
theorem pk4 (V : Valuation τ sig (Elt F)) (r : Ref sig .tc) (h : r ∉ hostOps0_4_W) : after hostOps0_4 V (Proc.devRef .tc r) = V (Proc.devRef .tc r) :=
  after_of_writes_sub hostOps0_4 V hostOps0_4_writes h

/-- What `hostOps0_5` writes. -/
abbrev hostOps0_5_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v30]
/-- `hostOps0_5` writes only these. -/
theorem hostOps0_5_writes : (hostOps0_5 : List (HloOp τ sig (Elt F))).Forall fun op => op.writes ⊆ (hostOps0_5_W.map (Proc.devRef (τ := τ) .tc)).toFinset :=
  StableHlo.forall_writes_sub_of_map rfl

/-- The stretch leaves alone every buffer it does not write. -/
theorem pk5 (V : Valuation τ sig (Elt F)) (r : Ref sig .tc) (h : r ∉ hostOps0_5_W) : after hostOps0_5 V (Proc.devRef .tc r) = V (Proc.devRef .tc r) :=
  after_of_writes_sub hostOps0_5 V hostOps0_5_writes h

/-- What `hostOps0_6` writes. -/
abbrev hostOps0_6_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v31]
/-- `hostOps0_6` writes only these. -/
theorem hostOps0_6_writes : (hostOps0_6 : List (HloOp τ sig (Elt F))).Forall fun op => op.writes ⊆ (hostOps0_6_W.map (Proc.devRef (τ := τ) .tc)).toFinset :=
  StableHlo.forall_writes_sub_of_map rfl

/-- The stretch leaves alone every buffer it does not write. -/
theorem pk6 (V : Valuation τ sig (Elt F)) (r : Ref sig .tc) (h : r ∉ hostOps0_6_W) : after hostOps0_6 V (Proc.devRef .tc r) = V (Proc.devRef .tc r) :=
  after_of_writes_sub hostOps0_6 V hostOps0_6_writes h

/-! ## The stretches before the region -/

variable (V : Valuation τ sig (Elt F))

/-- What `main_v4` holds after the stretch that writes it. -/
theorem k0_v4 : after hostOps0 V (Proc.devRef .tc main_v4) = cx1 (V (Proc.devRef .tc main_arg0)) := by
  after_reads_simp
  rfl

/-- What `main_v9` holds after the stretch that writes it. -/
theorem k0_v9 : after hostOps0 V (Proc.devRef .tc main_v9) = cy1 (V (Proc.devRef .tc main_arg0)) := by
  after_reads_simp
  rfl

/-- What `main_v14` holds after the stretch that writes it. -/
theorem k0_v14 : after hostOps0 V (Proc.devRef .tc main_v14) = cx2 (V (Proc.devRef .tc main_arg0)) := by
  after_reads_simp
  rfl

/-- What `main_v19` holds after the stretch that writes it. -/
theorem k0_v19 : after hostOps0 V (Proc.devRef .tc main_v19) = cy2 (V (Proc.devRef .tc main_arg0)) := by
  after_reads_simp
  rfl

/-- What `main_v27` holds after the stretch that writes it. -/
theorem k1_v27 : after hostOps0_1 (after hostOps0 V) (Proc.devRef .tc main_v27) = score (V (Proc.devRef .tc main_arg0)) (V (Proc.devRef .tc main_arg1)) := by
  after_reads_simp
  rfl

/-- What `main_values` holds after the stretch that writes it. -/
theorem k2_values : after hostOps0_2 V (Proc.devRef .tc main_values) = (Host.topK S2000 0 (FloatOps.cmpfTotal .gt) (V (Proc.devRef .tc main_v27)) sliceFits_S20000_S2000).1 := by
  after_reads_simp

/-- What `main_indices` holds after the stretch that writes it. -/
theorem k2_indices : after hostOps0_2 V (Proc.devRef .tc main_indices) = (Host.topK S2000 0 (FloatOps.cmpfTotal .gt) (V (Proc.devRef .tc main_v27)) sliceFits_S20000_S2000).2 := by
  after_reads_simp

/-- What `main_v28` holds after the stretch that writes it. -/
theorem k3_v28 : after hostOps0_3 V (Proc.devRef .tc main_v28) = takeCol (V (Proc.devRef .tc main_v4)) (V (Proc.devRef .tc main_indices)) := by
  after_reads_simp
  rfl

/-- What `main_v29` holds after the stretch that writes it. -/
theorem k4_v29 : after hostOps0_4 V (Proc.devRef .tc main_v29) = takeCol (V (Proc.devRef .tc main_v9)) (V (Proc.devRef .tc main_indices)) := by
  after_reads_simp
  rfl

/-- What `main_v30` holds after the stretch that writes it. -/
theorem k5_v30 : after hostOps0_5 V (Proc.devRef .tc main_v30) = takeCol (V (Proc.devRef .tc main_v14)) (V (Proc.devRef .tc main_indices)) := by
  after_reads_simp
  rfl

/-- What `main_v31` holds after the stretch that writes it. -/
theorem k6_v31 : after hostOps0_6 V (Proc.devRef .tc main_v31) = takeCol (V (Proc.devRef .tc main_v19)) (V (Proc.devRef .tc main_indices)) := by
  after_reads_simp
  rfl

/-- A column of 2000 lengthened by zeros. -/
def padded (x : FVec F S2000 .f32) : FVec F S2048 .f32 :=
  pad S2048 ![0] ![48] ![0] x (sitofp .f32 (constantI S_ 32 0#32)) pads_S2000_S2048_0480 h_S_

/-- The stretches that lengthen and reshape. -/
abbrev padOps : List (HloOp τ sig (Elt F)) :=
  List.flatten [hostOps0_7, hostOps0_8, hostOps0_9, hostOps0_10, hostOps0_11, hostOps0_12, hostOps0_13, hostOps0_14, hostOps0_15]

/-- What `main_v36` holds after the last stretches before the region. -/
theorem kp_v36 : after padOps V (Proc.devRef .tc main_v36) = shapeCast S2048x1x1 (padded (V (Proc.devRef .tc main_v28))) shapeCasts_S2048_S2048x1x1 := by
  after_reads_simp
  rfl

/-- What `main_v40` holds after the last stretches before the region. -/
theorem kp_v40 : after padOps V (Proc.devRef .tc main_v40) = shapeCast S1x16x128 (padded (V (Proc.devRef .tc main_v28))) shapeCasts_S2048_S1x16x128 := by
  after_reads_simp
  rfl

/-- What `main_v37` holds after the last stretches before the region. -/
theorem kp_v37 : after padOps V (Proc.devRef .tc main_v37) = shapeCast S2048x1x1 (padded (V (Proc.devRef .tc main_v29))) shapeCasts_S2048_S2048x1x1 := by
  after_reads_simp
  rfl

/-- What `main_v41` holds after the last stretches before the region. -/
theorem kp_v41 : after padOps V (Proc.devRef .tc main_v41) = shapeCast S1x16x128 (padded (V (Proc.devRef .tc main_v29))) shapeCasts_S2048_S1x16x128 := by
  after_reads_simp
  rfl

/-- What `main_v38` holds after the last stretches before the region. -/
theorem kp_v38 : after padOps V (Proc.devRef .tc main_v38) = shapeCast S2048x1x1 (padded (V (Proc.devRef .tc main_v30))) shapeCasts_S2048_S2048x1x1 := by
  after_reads_simp
  rfl

/-- What `main_v42` holds after the last stretches before the region. -/
theorem kp_v42 : after padOps V (Proc.devRef .tc main_v42) = shapeCast S1x16x128 (padded (V (Proc.devRef .tc main_v30))) shapeCasts_S2048_S1x16x128 := by
  after_reads_simp
  rfl

/-- What `main_v39` holds after the last stretches before the region. -/
theorem kp_v39 : after padOps V (Proc.devRef .tc main_v39) = shapeCast S2048x1x1 (padded (V (Proc.devRef .tc main_v31))) shapeCasts_S2048_S2048x1x1 := by
  after_reads_simp
  rfl

/-- What `main_v43` holds after the last stretches before the region. -/
theorem kp_v43 : after padOps V (Proc.devRef .tc main_v43) = shapeCast S1x16x128 (padded (V (Proc.devRef .tc main_v31))) shapeCasts_S2048_S1x16x128 := by
  after_reads_simp
  rfl

/-- What `main_v28` holds after the last stretches before the region. -/
theorem kp_v28 : after padOps V (Proc.devRef .tc main_v28) = V (Proc.devRef .tc main_v28) := by
  after_reads_simp

/-- What `main_v29` holds after the last stretches before the region. -/
theorem kp_v29 : after padOps V (Proc.devRef .tc main_v29) = V (Proc.devRef .tc main_v29) := by
  after_reads_simp

/-- What `main_v30` holds after the last stretches before the region. -/
theorem kp_v30 : after padOps V (Proc.devRef .tc main_v30) = V (Proc.devRef .tc main_v30) := by
  after_reads_simp

/-- What `main_v31` holds after the last stretches before the region. -/
theorem kp_v31 : after padOps V (Proc.devRef .tc main_v31) = V (Proc.devRef .tc main_v31) := by
  after_reads_simp

/-- What `main_values` holds after the last stretches before the region. -/
theorem kp_values : after padOps V (Proc.devRef .tc main_values) = V (Proc.devRef .tc main_values) := by
  after_reads_simp

/-- The stretches before the region, one after the other. -/
theorem pre_split : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V
    = after padOps (after hostOps0_6 (after hostOps0_5 (after hostOps0_4 (after hostOps0_3 (after hostOps0_2 (after hostOps0_1 (after hostOps0 V))))))) := by
  rw [← afterL_eq_after_flatten, padOps, ← afterL_eq_after_flatten]
  rfl

/-- The best scores, before the region. -/
theorem pre_values : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_values)
    = best (V (Proc.devRef .tc main_arg0)) (V (Proc.devRef .tc main_arg1)) := by
  rw [pre_split, kp_values, pk6 _ main_values (by decide +kernel), pk5 _ main_values (by decide +kernel), pk4 _ main_values (by decide +kernel), pk3 _ main_values (by decide +kernel), k2_values, k1_v27]
  rfl

/-- A corner of the best boxes, before the region. -/
theorem pre_v28 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v28)
    = takeCol (cx1 (V (Proc.devRef .tc main_arg0))) (bestAt (V (Proc.devRef .tc main_arg0)) (V (Proc.devRef .tc main_arg1))) := by
  rw [pre_split, kp_v28, pk6 _ main_v28 (by decide +kernel), pk5 _ main_v28 (by decide +kernel), pk4 _ main_v28 (by decide +kernel), k3_v28, pk2 _ main_v4 (by decide +kernel), pk1 _ main_v4 (by decide +kernel), k0_v4, k2_indices, k1_v27]
  rfl

/-- The same, as an operand one box to a row. -/
theorem pre_v36 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v36)
    = shapeCast S2048x1x1 (padded (takeCol (cx1 (V (Proc.devRef .tc main_arg0))) (bestAt (V (Proc.devRef .tc main_arg0)) (V (Proc.devRef .tc main_arg1))))) shapeCasts_S2048_S2048x1x1 := by
  rw [pre_split, kp_v36, pk6 _ main_v28 (by decide +kernel), pk5 _ main_v28 (by decide +kernel), pk4 _ main_v28 (by decide +kernel), k3_v28, pk2 _ main_v4 (by decide +kernel), pk1 _ main_v4 (by decide +kernel), k0_v4, k2_indices, k1_v27]
  rfl

/-- The same, as an operand in rows of 128. -/
theorem pre_v40 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v40)
    = shapeCast S1x16x128 (padded (takeCol (cx1 (V (Proc.devRef .tc main_arg0))) (bestAt (V (Proc.devRef .tc main_arg0)) (V (Proc.devRef .tc main_arg1))))) shapeCasts_S2048_S1x16x128 := by
  rw [pre_split, kp_v40, pk6 _ main_v28 (by decide +kernel), pk5 _ main_v28 (by decide +kernel), pk4 _ main_v28 (by decide +kernel), k3_v28, pk2 _ main_v4 (by decide +kernel), pk1 _ main_v4 (by decide +kernel), k0_v4, k2_indices, k1_v27]
  rfl

/-- A corner of the best boxes, before the region. -/
theorem pre_v29 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v29)
    = takeCol (cy1 (V (Proc.devRef .tc main_arg0))) (bestAt (V (Proc.devRef .tc main_arg0)) (V (Proc.devRef .tc main_arg1))) := by
  rw [pre_split, kp_v29, pk6 _ main_v29 (by decide +kernel), pk5 _ main_v29 (by decide +kernel), k4_v29, pk3 _ main_v9 (by decide +kernel), pk2 _ main_v9 (by decide +kernel), pk1 _ main_v9 (by decide +kernel), k0_v9, pk3 _ main_indices (by decide +kernel), k2_indices, k1_v27]
  rfl

/-- The same, as an operand one box to a row. -/
theorem pre_v37 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v37)
    = shapeCast S2048x1x1 (padded (takeCol (cy1 (V (Proc.devRef .tc main_arg0))) (bestAt (V (Proc.devRef .tc main_arg0)) (V (Proc.devRef .tc main_arg1))))) shapeCasts_S2048_S2048x1x1 := by
  rw [pre_split, kp_v37, pk6 _ main_v29 (by decide +kernel), pk5 _ main_v29 (by decide +kernel), k4_v29, pk3 _ main_v9 (by decide +kernel), pk2 _ main_v9 (by decide +kernel), pk1 _ main_v9 (by decide +kernel), k0_v9, pk3 _ main_indices (by decide +kernel), k2_indices, k1_v27]
  rfl

/-- The same, as an operand in rows of 128. -/
theorem pre_v41 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v41)
    = shapeCast S1x16x128 (padded (takeCol (cy1 (V (Proc.devRef .tc main_arg0))) (bestAt (V (Proc.devRef .tc main_arg0)) (V (Proc.devRef .tc main_arg1))))) shapeCasts_S2048_S1x16x128 := by
  rw [pre_split, kp_v41, pk6 _ main_v29 (by decide +kernel), pk5 _ main_v29 (by decide +kernel), k4_v29, pk3 _ main_v9 (by decide +kernel), pk2 _ main_v9 (by decide +kernel), pk1 _ main_v9 (by decide +kernel), k0_v9, pk3 _ main_indices (by decide +kernel), k2_indices, k1_v27]
  rfl

/-- A corner of the best boxes, before the region. -/
theorem pre_v30 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v30)
    = takeCol (cx2 (V (Proc.devRef .tc main_arg0))) (bestAt (V (Proc.devRef .tc main_arg0)) (V (Proc.devRef .tc main_arg1))) := by
  rw [pre_split, kp_v30, pk6 _ main_v30 (by decide +kernel), k5_v30, pk4 _ main_v14 (by decide +kernel), pk3 _ main_v14 (by decide +kernel), pk2 _ main_v14 (by decide +kernel), pk1 _ main_v14 (by decide +kernel), k0_v14, pk4 _ main_indices (by decide +kernel), pk3 _ main_indices (by decide +kernel), k2_indices, k1_v27]
  rfl

/-- The same, as an operand one box to a row. -/
theorem pre_v38 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v38)
    = shapeCast S2048x1x1 (padded (takeCol (cx2 (V (Proc.devRef .tc main_arg0))) (bestAt (V (Proc.devRef .tc main_arg0)) (V (Proc.devRef .tc main_arg1))))) shapeCasts_S2048_S2048x1x1 := by
  rw [pre_split, kp_v38, pk6 _ main_v30 (by decide +kernel), k5_v30, pk4 _ main_v14 (by decide +kernel), pk3 _ main_v14 (by decide +kernel), pk2 _ main_v14 (by decide +kernel), pk1 _ main_v14 (by decide +kernel), k0_v14, pk4 _ main_indices (by decide +kernel), pk3 _ main_indices (by decide +kernel), k2_indices, k1_v27]
  rfl

/-- The same, as an operand in rows of 128. -/
theorem pre_v42 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v42)
    = shapeCast S1x16x128 (padded (takeCol (cx2 (V (Proc.devRef .tc main_arg0))) (bestAt (V (Proc.devRef .tc main_arg0)) (V (Proc.devRef .tc main_arg1))))) shapeCasts_S2048_S1x16x128 := by
  rw [pre_split, kp_v42, pk6 _ main_v30 (by decide +kernel), k5_v30, pk4 _ main_v14 (by decide +kernel), pk3 _ main_v14 (by decide +kernel), pk2 _ main_v14 (by decide +kernel), pk1 _ main_v14 (by decide +kernel), k0_v14, pk4 _ main_indices (by decide +kernel), pk3 _ main_indices (by decide +kernel), k2_indices, k1_v27]
  rfl

/-- A corner of the best boxes, before the region. -/
theorem pre_v31 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v31)
    = takeCol (cy2 (V (Proc.devRef .tc main_arg0))) (bestAt (V (Proc.devRef .tc main_arg0)) (V (Proc.devRef .tc main_arg1))) := by
  rw [pre_split, kp_v31, k6_v31, pk5 _ main_v19 (by decide +kernel), pk4 _ main_v19 (by decide +kernel), pk3 _ main_v19 (by decide +kernel), pk2 _ main_v19 (by decide +kernel), pk1 _ main_v19 (by decide +kernel), k0_v19, pk5 _ main_indices (by decide +kernel), pk4 _ main_indices (by decide +kernel), pk3 _ main_indices (by decide +kernel), k2_indices, k1_v27]
  rfl

/-- The same, as an operand one box to a row. -/
theorem pre_v39 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v39)
    = shapeCast S2048x1x1 (padded (takeCol (cy2 (V (Proc.devRef .tc main_arg0))) (bestAt (V (Proc.devRef .tc main_arg0)) (V (Proc.devRef .tc main_arg1))))) shapeCasts_S2048_S2048x1x1 := by
  rw [pre_split, kp_v39, k6_v31, pk5 _ main_v19 (by decide +kernel), pk4 _ main_v19 (by decide +kernel), pk3 _ main_v19 (by decide +kernel), pk2 _ main_v19 (by decide +kernel), pk1 _ main_v19 (by decide +kernel), k0_v19, pk5 _ main_indices (by decide +kernel), pk4 _ main_indices (by decide +kernel), pk3 _ main_indices (by decide +kernel), k2_indices, k1_v27]
  rfl

/-- The same, as an operand in rows of 128. -/
theorem pre_v43 : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V (Proc.devRef .tc main_v43)
    = shapeCast S1x16x128 (padded (takeCol (cy2 (V (Proc.devRef .tc main_arg0))) (bestAt (V (Proc.devRef .tc main_arg0)) (V (Proc.devRef .tc main_arg1))))) shapeCasts_S2048_S1x16x128 := by
  rw [pre_split, kp_v43, k6_v31, pk5 _ main_v19 (by decide +kernel), pk4 _ main_v19 (by decide +kernel), pk3 _ main_v19 (by decide +kernel), pk2 _ main_v19 (by decide +kernel), pk1 _ main_v19 (by decide +kernel), k0_v19, pk5 _ main_indices (by decide +kernel), pk4 _ main_indices (by decide +kernel), pk3 _ main_indices (by decide +kernel), k2_indices, k1_v27]
  rfl

/-! ## The stretches after the region -/

/-- The flags read back as booleans. -/
def asBool (x : FVec F S16x128 .f32) : IVec S2000 1 :=
  cmpf .ogt (extractStridedSlice S2000 ![0] (shapeCast S2048 x shapeCasts_S16x128_S2048) slices_S2048_S2000_0)
    (broadcastInDim S2000 ![] bcast_S_S2000 (constant S_ .f32 0x3F000000#32))

/-- What `main_v48` holds after the stretch that writes it. -/
theorem s0_v48 : after hostOps1 V (Proc.devRef .tc main_v48) = asBool (V (Proc.devRef .tc main_v44)) := by
  after_reads_simp
  rfl

/-- What `main_v49` holds after the stretch that writes it. -/
theorem s1_v49 : after hostOps1_1 (after hostOps1 V) (Proc.devRef .tc main_v49) = select (asBool (V (Proc.devRef .tc main_v44))) (V (Proc.devRef .tc main_values)) (broadcastInDim S2000 ![] bcast_S_S2000 (constant S_ .f32 0xF149F2CA#32)) := by
  after_reads_simp
  rfl

/-- What `main_indices` holds after the stretch that writes it. -/
theorem s2_indices : after hostOps1_2 V (Proc.devRef .tc main_indices_8) = (Host.topK S1000 0 (FloatOps.cmpfTotal .gt) (V (Proc.devRef .tc main_v49)) sliceFits_S2000_S1000).2 := by
  after_reads_simp

/-- What `main_v54` holds after the stretch that writes it. -/
theorem s2_v54 : after hostOps1_2 V (Proc.devRef .tc main_v54) = stack (V (Proc.devRef .tc main_v28)) (V (Proc.devRef .tc main_v29)) (V (Proc.devRef .tc main_v30)) (V (Proc.devRef .tc main_v31)) := by
  after_reads_simp
  rfl

/-- What `main_v55` holds after the stretch that writes it. -/
theorem s3_v55 : after hostOps1_3 V (Proc.devRef .tc main_v55) = lastBoxes (V (Proc.devRef .tc main_v54)) (V (Proc.devRef .tc main_indices_8)) := by
  after_reads_simp
  rfl

/-- What `main_v56` holds after the stretch that writes it. -/
theorem s4_v56 : after hostOps1_4 V (Proc.devRef .tc main_v56) = lastKeep (V (Proc.devRef .tc main_v48)) (V (Proc.devRef .tc main_indices_8)) := by
  after_reads_simp
  rfl

/-- What `main_v57` holds after the stretch that writes it. -/
theorem s5_v57 : after hostOps1_5 V (Proc.devRef .tc main_v57) = lastVals (V (Proc.devRef .tc main_values)) (V (Proc.devRef .tc main_indices_8)) := by
  after_reads_simp
  rfl

/-- What `main_v60` holds after the stretch that writes it. -/
theorem s8_v60 : after hostOps1_8 (after hostOps1_7 (after hostOps1_6 V)) (Proc.devRef .tc main_v60) = sideBySide (V (Proc.devRef .tc main_v55)) (V (Proc.devRef .tc main_v56)) (V (Proc.devRef .tc main_v57)) := by
  after_reads_simp
  rfl

/-- The stretch leaves alone every buffer it does not write. -/
theorem sk0 (V : Valuation τ sig (Elt F)) (r : Ref sig .tc) (h : r ∉ hostOps1_W) : after hostOps1 V (Proc.devRef .tc r) = V (Proc.devRef .tc r) :=
  after_of_writes_sub hostOps1 V hostOps1_writes h

/-- The stretch leaves alone every buffer it does not write. -/
theorem sk1 (V : Valuation τ sig (Elt F)) (r : Ref sig .tc) (h : r ∉ hostOps1_1_W) : after hostOps1_1 V (Proc.devRef .tc r) = V (Proc.devRef .tc r) :=
  after_of_writes_sub hostOps1_1 V hostOps1_1_writes h

/-- The stretch leaves alone every buffer it does not write. -/
theorem sk2 (V : Valuation τ sig (Elt F)) (r : Ref sig .tc) (h : r ∉ hostOps1_2_W) : after hostOps1_2 V (Proc.devRef .tc r) = V (Proc.devRef .tc r) :=
  after_of_writes_sub hostOps1_2 V hostOps1_2_writes h

/-- The stretch leaves alone every buffer it does not write. -/
theorem sk3 (V : Valuation τ sig (Elt F)) (r : Ref sig .tc) (h : r ∉ hostOps1_3_W) : after hostOps1_3 V (Proc.devRef .tc r) = V (Proc.devRef .tc r) :=
  after_of_writes_sub hostOps1_3 V hostOps1_3_writes h

/-- The stretch leaves alone every buffer it does not write. -/
theorem sk4 (V : Valuation τ sig (Elt F)) (r : Ref sig .tc) (h : r ∉ hostOps1_4_W) : after hostOps1_4 V (Proc.devRef .tc r) = V (Proc.devRef .tc r) :=
  after_of_writes_sub hostOps1_4 V hostOps1_4_writes h

/-- The stretch leaves alone every buffer it does not write. -/
theorem sk5 (V : Valuation τ sig (Elt F)) (r : Ref sig .tc) (h : r ∉ hostOps1_5_W) : after hostOps1_5 V (Proc.devRef .tc r) = V (Proc.devRef .tc r) :=
  after_of_writes_sub hostOps1_5 V hostOps1_5_writes h

/-- The result, after the last line. -/
theorem post_v60 : after (List.flatten [hostOps1, hostOps1_1, hostOps1_2, hostOps1_3, hostOps1_4, hostOps1_5, hostOps1_6, hostOps1_7, hostOps1_8]) V (Proc.devRef .tc main_v60)
    = result (asBool (V (Proc.devRef .tc main_v44))) (V (Proc.devRef .tc main_values)) (stack (V (Proc.devRef .tc main_v28)) (V (Proc.devRef .tc main_v29)) (V (Proc.devRef .tc main_v30)) (V (Proc.devRef .tc main_v31))) := by
  rw [← afterL_eq_after_flatten]
  simp only [afterL_cons, afterL_nil]
  rw [s8_v60, sk5 _ main_v55 (by decide +kernel), sk4 _ main_v55 (by decide +kernel), s3_v55, s2_v54, sk1 _ main_v28 (by decide +kernel), sk0 _ main_v28 (by decide +kernel), sk1 _ main_v29 (by decide +kernel), sk0 _ main_v29 (by decide +kernel), sk1 _ main_v30 (by decide +kernel), sk0 _ main_v30 (by decide +kernel), sk1 _ main_v31 (by decide +kernel), sk0 _ main_v31 (by decide +kernel), s2_indices, s1_v49, sk5 _ main_v56 (by decide +kernel), s4_v56, sk3 _ main_v48 (by decide +kernel), sk2 _ main_v48 (by decide +kernel), sk1 _ main_v48 (by decide +kernel), s0_v48, sk3 _ main_indices_8 (by decide +kernel), s2_indices, s1_v49, s5_v57, sk4 _ main_values (by decide +kernel), sk3 _ main_values (by decide +kernel), sk2 _ main_values (by decide +kernel), sk1 _ main_values (by decide +kernel), sk0 _ main_values (by decide +kernel), sk4 _ main_indices_8 (by decide +kernel), sk3 _ main_indices_8 (by decide +kernel), s2_indices, s1_v49]
  rfl

end Cert.Proof.V

end
-- ==== Proof.V.Nms.lean ====
/-
  THE MATHEMATICS BOTH PROGRAMS SHARE, on the extended reals.

  Boxes are numbered from the best score down. `hit B i j`: box `i` overlaps box `j` above the threshold. `Kept`: a box
  is kept when no kept box before it hits it. `KeptTo`: a box has survived the first `n` boxes. A program that keeps a
  flag per box keeps it as one or zero: `ind`.
-/
module

public import Idealize.ShloMosaic.PureOps.Ideal.Laws
public import Idealize.ShloMosaic.Lib.Scf

@[expose] public section

noncomputable section

namespace Cert.Proof.V

open Idealize.ShloMosaic

/-! ## Overlap of two boxes, each as its corners x1, y1, x2, y2 -/

/-- The area of a box. -/
def area (a : Fin 4 → EReal) : EReal := (a 2 - a 0) * (a 3 - a 1)

/-- The area two boxes share. -/
def inter (a b : Fin 4 → EReal) : EReal :=
  max 0 (min (a 2) (b 2) - max (a 0) (b 0)) * max 0 (min (a 3) (b 3) - max (a 1) (b 1))

/-- The shared area over the area covered by either, the latter moved off zero by the programs' small constant. -/
def overlap (a b : Fin 4 → EReal) : EReal :=
  Ideal.div (inter a b) (area a + area b - inter a b + Ideal.ofBits .f32 0x3089705F#32)

/-- Box `i` overlaps box `j` above the programs' threshold. -/
def hit (B : ℕ → Fin 4 → EReal) (i j : ℕ) : Prop := Ideal.ofBits .f32 0x3F333333#32 < overlap (B i) (B j)

/-! ## Greedy suppression -/

/-- Box `j` is kept: no kept box before it hits it. -/
def Kept (H : ℕ → ℕ → Prop) (j : ℕ) : Prop := ∀ i, i < j → Kept H i → ¬ H i j
termination_by j

/-- Box `j` has survived the boxes before `n` (only those before `j` count). -/
def KeptTo (H : ℕ → ℕ → Prop) (n j : ℕ) : Prop := ∀ i, i < n → i < j → Kept H i → ¬ H i j

variable (H : ℕ → ℕ → Prop)

/-- Every box has survived none. -/
theorem keptTo_zero (j : ℕ) : KeptTo H 0 j := fun i h => absurd h (Nat.not_lt_zero i)

/-- Nothing from box `j` on counts against box `j`. -/
theorem keptTo_iff_kept {n j : ℕ} (h : j ≤ n) : KeptTo H n j ↔ Kept H j := by
  rw [Kept]; exact ⟨fun k i hi => k i (by omega) hi, fun k i _ hi => k i hi⟩

/-- One more box: it counts against `j` when it is kept, hits `j` and comes before it. -/
theorem keptTo_succ (n j : ℕ) : KeptTo H (n + 1) j ↔ KeptTo H n j ∧ ¬ (Kept H n ∧ (H n j ∧ n < j)) := by
  constructor
  · intro h
    exact ⟨fun i hi => h i (by omega), fun ⟨hk, hh, hn⟩ => h n (by omega) hn hk hh⟩
  · rintro ⟨h, h'⟩ i hi hij hk hh
    rcases Nat.lt_succ_iff_lt_or_eq.mp hi with hlt | rfl
    · exact h i hlt hij hk hh
    · exact h' ⟨hk, hh, hij⟩

/-- `d` more boxes, all before `j`. -/
theorem keptTo_add (n d j : ℕ) (hj : n + d ≤ j) :
    KeptTo H (n + d) j ↔ KeptTo H n j ∧ ¬ ∃ i : Fin d, H (n + i) j ∧ Kept H (n + i) := by
  constructor
  · intro h
    refine ⟨fun i hi => h i (by omega), ?_⟩
    rintro ⟨i, hh, hk⟩
    have := i.isLt
    exact h (n + i) (by omega) (by omega) hk hh
  · rintro ⟨h, h'⟩ i hi hij hk hh
    by_cases hn : i < n
    · exact h i hn hij hk hh
    · refine h' ⟨⟨i - n, by omega⟩, ?_, ?_⟩ <;> rw [show n + (i - n) = i by omega] <;> assumption

/-! ## Flags as ones and zeros -/

open Classical in
/-- One where `p` holds, else zero. -/
def ind (p : Prop) : EReal := if p then 1 else 0

/-- One, where it holds. -/
theorem ind_pos {p : Prop} (h : p) : ind p = 1 := if_pos h
/-- Zero, where it fails. -/
theorem ind_neg {p : Prop} (h : ¬ p) : ind p = 0 := if_neg h
/-- Equivalent statements have equal flags. -/
theorem ind_congr {p q : Prop} (h : p ↔ q) : ind p = ind q := by rw [propext h]

/-- The product of flags is the flag of both. -/
theorem ind_mul (p q : Prop) : ind p * ind q = ind (p ∧ q) := by
  by_cases hp : p <;> by_cases hq : q <;> simp [ind, hp, hq]

/-- One less a flag is the flag of the contrary. -/
theorem one_sub_ind (p : Prop) : 1 - ind p = ind (¬ p) := by
  by_cases hp : p
  · rw [ind_pos hp, ind_neg (not_not.mpr hp)]; exact EReal.sub_self (by decide) (by decide)
  · rw [ind_neg hp, ind_pos hp, sub_zero]

/-- A flag chosen by a bit, else zero, is the flag of both. -/
theorem select_ind (c : BitVec 1) (p : Prop) : Scalar.select c (ind p) 0 = ind (c = 1#1 ∧ p) := by
  change (if c = 1#1 then ind p else 0) = _
  by_cases hc : c = 1#1
  · rw [if_pos hc]; exact ind_congr (by simp [hc])
  · rw [if_neg hc, ind_neg (fun h => hc h.1)]

/-- The pattern of −∞ is the least element. -/
theorem ofBits_bot : Ideal.ofBits .f32 0xFF800000#32 = ⊥ := by simp [Ideal.ofBits, Ideal.ieee]

/-- The maximum of flags, from −∞, is the flag of "one of them is set". -/
theorem fold_ind {n : ℕ} (hn : 0 < n) (P : Fin n → Prop) :
    (Finset.univ : Finset (Fin n)).fold max (Ideal.ofBits .f32 0xFF800000#32) (fun k => ind (P k)) = ind (∃ k, P k) := by
  rw [ofBits_bot]
  apply le_antisymm
  · rw [Finset.fold_max_le]
    refine ⟨bot_le, fun k _ => ?_⟩
    by_cases h : P k
    · rw [ind_pos h, ind_pos ⟨k, h⟩]
    · rw [ind_neg h]; unfold ind; split
      · exact zero_le_one
      · exact le_refl _
  · rw [Finset.le_fold_max]
    right
    by_cases h : ∃ k, P k
    · obtain ⟨k, hk⟩ := h
      exact ⟨k, Finset.mem_univ k, by rw [ind_pos hk, ind_pos ⟨k, hk⟩]⟩
    · refine ⟨⟨0, hn⟩, Finset.mem_univ _, ?_⟩
      rw [ind_neg h, ind_neg (fun h0 => h ⟨_, h0⟩)]

/-! ## Index words -/

/-- Words of small numbers compare as the numbers do. -/
theorem slt_small {a b : ℕ} (ha : a < 2 ^ 31) (hb : b < 2 ^ 31) :
    (BitVec.ofNat 32 a).slt (BitVec.ofNat 32 b) = decide (a < b) := by
  have key : ∀ n : ℕ, n < 2 ^ 31 → (BitVec.ofNat 32 n).toInt = n := fun n h => by
    rw [BitVec.toInt_eq_toNat_of_lt (by rw [BitVec.toNat_ofNat]; omega), BitVec.toNat_ofNat]; congr 1; omega
  rw [BitVec.slt_eq_decide, key a ha, key b hb]
  simp

/-- Words of small numbers are equal when the numbers are. -/
theorem cmpi_eq_small {a b : ℕ} (ha : a < 2 ^ 31) (hb : b < 2 ^ 31) :
    IntOp.cmpi .eq (BitVec.ofNat 32 a) (BitVec.ofNat 32 b) = 1#1 ↔ a = b := by
  unfold IntOp.cmpi
  have : (BitVec.ofNat 32 a = BitVec.ofNat 32 b) ↔ a = b := by
    rw [← BitVec.toNat_inj, BitVec.toNat_ofNat, BitVec.toNat_ofNat]; omega
  by_cases h : a = b
  · simp [h]
  · have hne : ¬ BitVec.ofNat 32 a = BitVec.ofNat 32 b := fun e => h (this.mp e)
    rw [show (BitVec.ofNat 32 a == BitVec.ofNat 32 b) = false from beq_false_of_ne hne]
    simp [h]

/-- Words of small numbers compare as the numbers do, the other way round. -/
theorem cmpi_sgt_small {a b : ℕ} (ha : a < 2 ^ 31) (hb : b < 2 ^ 31) :
    IntOp.cmpi .sgt (BitVec.ofNat 32 a) (BitVec.ofNat 32 b) = 1#1 ↔ b < a := by
  unfold IntOp.cmpi
  by_cases h : b < a <;> simp [slt_small hb ha, h]

/-- A loop's index from zero by ones is its trip number. -/
theorem iv_eq (k : ℕ) : Scf.iv 0#32 1#32 k = BitVec.ofNat 32 k := by simp [Scf.iv]

/-- A comparison's bit widened and made a float is a flag. -/
theorem sitofp_bit (c : BitVec 1) : (FloatOps.sitofp .f32 (BitVec.setWidth 32 c) : Ideal .f32) = ind (c = 1#1) := by
  change (((BitVec.setWidth 32 c).toInt : ℝ) : EReal) = _
  rcases (by decide : ∀ c : BitVec 1, c = 0#1 ∨ c = 1#1) c with rfl | rfl
  · rw [ind_neg (by decide), show (BitVec.setWidth 32 0#1).toInt = 0 by decide]; simp
  · rw [ind_pos rfl, show (BitVec.setWidth 32 1#1).toInt = 1 by decide]; simp

end Cert.Proof.V

end
-- ==== Proof.V.Flags.lean ====
/-
  WHAT THE KERNEL'S LOOPS LEAVE, on the extended reals: the flag of box `128 b + l` is one exactly when the box is kept.
-/
module

public import proofs.«01_k».proof.Proof.PI.Block
public import proofs.«01_k».proof.Proof.V.Nms
public import Idealize.ShloMosaic.Lib.Pointwise

@[expose] public section

noncomputable section

namespace Cert.Proof.V

open Cert.KernelIdeal Cert.KernelIdeal.Gen Cert.Proof.PI
open Idealize.ShloMosaic Idealize.ShloMosaic.TcCoe

/-- The outer loop takes 16 trips. -/
theorem trips1 : k0_t1_loop.trips = 16 := by decide
/-- The inner loop takes 128 trips. -/
theorem trips2 : k0_t2_loop.trips = 128 := by decide
/-- An outer trip is one of 16. -/
theorem lt1 (k : Fin k0_t1_loop.trips) : k.val < 16 := k.isLt.trans_eq trips1
/-- An inner trip is one of 128. -/
theorem lt2 (j : Fin k0_t2_loop.trips) : j.val < 128 := j.isLt.trans_eq trips2

/-! ## The three windows a trip reads -/

/-- Where an outer trip reads its rows. -/
theorem off1_eq : ∀ k : Fin k0_t1_loop.trips, k0_off1 k = ![128 * k.val, 0, 0] := by decide
/-- Where an outer trip reads its own columns. -/
theorem off2_eq : ∀ k : Fin k0_t1_loop.trips, k0_off2 k = ![0, k.val, 0] := by decide
/-- Where an inner trip reads its row. -/
theorem off3_eq : ∀ j : Fin k0_t2_loop.trips, k0_off3 j = ![j.val, 0] := by decide

/-- A trip's rows of an operand, at an index. -/
theorem rowsAt_apply (x : Vec Ideal S2048x1x1 .f32) (k : Fin k0_t1_loop.trips) (i : Fin 128) :
    rowsAt x k (ix3 i 0 0) = x (ix3 ⟨128 * k.val + i.val, by have := lt1 k; omega⟩ 0 0) := by
  unfold rowsAt
  congr 1; funext a; apply Fin.ext
  fin_cases a
  · change k0_off1 k 0 + 1 * i.val = 128 * k.val + i.val; rw [off1_eq, Nat.one_mul]; rfl
  · change k0_off1 k 1 + 1 * 0 = 0; rw [off1_eq]; rfl
  · change k0_off1 k 2 + 1 * 0 = 0; rw [off1_eq]; rfl

/-- A trip's own columns, at an index. -/
theorem slab_apply (S : FVec Ideal S128x16x128 .f32) (k : Fin k0_t1_loop.trips) (i l : Fin 128) :
    S ((Rect.unit (s := S128x16x128) (k0_off2 k) S128x1x128.size (k0_off2_inb k)).toLoadRect.idx (ix3 i 0 l))
      = S (ix3 i ⟨k.val, lt1 k⟩ l) := by
  congr 1; funext a; apply Fin.ext
  fin_cases a
  · change k0_off2 k 0 + 1 * i.val = i.val; rw [off2_eq, Nat.one_mul]; exact Nat.zero_add _
  · change k0_off2 k 1 + 1 * 0 = k.val; rw [off2_eq]; rfl
  · change k0_off2 k 2 + 1 * l.val = l.val; rw [off2_eq, Nat.one_mul]; exact Nat.zero_add _

/-- One row of the square, at an index. -/
theorem rowAt_apply (T : FVec Ideal S128x128 .f32) (j : Fin k0_t2_loop.trips) (l : Fin 128) :
    rowAt T j (ix2 0 l) = T (ix2 ⟨j.val, lt2 j⟩ l) := by
  unfold rowAt
  congr 1; funext a; apply Fin.ext
  fin_cases a
  · change k0_off3 j 0 + 1 * 0 = j.val; rw [off3_eq]; rfl
  · change k0_off3 j 1 + 1 * l.val = l.val; rw [off3_eq, Nat.one_mul]; exact Nat.zero_add _

/-! ## The comparisons -/

/-- The kernel's eight operands hold the boxes `B`, the last four of them a block per row. -/
structure Holds (B : ℕ → Fin 4 → EReal) (x0 x1 x2 x3 : Vec Ideal S2048x1x1 .f32) (v0 v2 v4 v6 : Vec Ideal S1x16x128 .f32) : Prop where
  row0 : ∀ r : Fin 2048, x0 (ix3 r 0 0) = B r 0
  row1 : ∀ r : Fin 2048, x1 (ix3 r 0 0) = B r 1
  row2 : ∀ r : Fin 2048, x2 (ix3 r 0 0) = B r 2
  row3 : ∀ r : Fin 2048, x3 (ix3 r 0 0) = B r 3
  lane0 : ∀ (b : Fin 16) (l : Fin 128), v0 (ix3 0 b l) = B (128 * b + l) 0
  lane1 : ∀ (b : Fin 16) (l : Fin 128), v2 (ix3 0 b l) = B (128 * b + l) 1
  lane2 : ∀ (b : Fin 16) (l : Fin 128), v4 (ix3 0 b l) = B (128 * b + l) 2
  lane3 : ∀ (b : Fin 16) (l : Fin 128), v6 (ix3 0 b l) = B (128 * b + l) 3

variable {B : ℕ → Fin 4 → EReal} {x0 x1 x2 x3 : Vec Ideal S2048x1x1 .f32} {v0 v2 v4 v6 : Vec Ideal S1x16x128 .f32}

/-- The block's comparison of its box `i` with box `(b, l)`. -/
theorem block_apply (h : Holds B x0 x1 x2 x3 v0 v2 v4 v6) (k : Fin k0_t1_loop.trips) (i : Fin 128) (b : Fin 16) (l : Fin 128) :
    block v0 v2 v4 v6 x0 x1 x2 x3 k (ix3 i b l) = ind (hit B (128 * k + i) (128 * b + l)) := by
  unfold block k0_pay11 k0_pay10 k0_pay5 k0_pay1 k0_pay2 k0_pay3 k0_pay4
  pointwise
  simp only [rowsAt_apply, h.row0, h.row1, h.row2, h.row3, h.lane0, h.lane1, h.lane2, h.lane3]
  unfold ind hit overlap inter area
  congr

/-- A slab of one row per box laid flat and multiplied by the mask above the diagonal. -/
theorem pay12_apply (T : FVec Ideal S128x1x128 .f32) (i l : Fin 128) :
    k0_pay12 k0_pay7 T (ix2 i l) = T (ix3 i 0 l) * ind (i.val < l.val) := by
  unfold k0_pay12 k0_pay7
  pointwise
  rw [sitofp_bit]
  exact congrArg _ (ind_congr (cmpi_sgt_small (by omega) (by omega)))

/-- The block's comparisons with itself, above the diagonal. -/
theorem square_apply (S : FVec Ideal S128x16x128 .f32) (Q : Fin 128 → Fin 16 → Fin 128 → Prop) (hS : ∀ i b l, S (ix3 i b l) = ind (Q i b l))
    (k : Fin k0_t1_loop.trips) (i l : Fin 128) :
    square S k (ix2 i l) = ind (Q i ⟨k.val, lt1 k⟩ l ∧ i.val < l.val) := by
  unfold square
  rw [pay12_apply]
  refine (congrArg (· * ind (i.val < l.val)) ((slab_apply S k i l).trans (hS _ _ _))).trans ?_
  exact ind_mul _ _

/-! ## The block's own flags -/

/-- One row of the square: lane `l` stays set unless lane `j` is set and marks it. -/
theorem pay14_apply (j : Fin k0_t2_loop.trips) (f r : FVec Ideal S1x128 .f32) (P R : Fin 128 → Prop)
    (hf : ∀ l, f (ix2 0 l) = ind (P l)) (hr : ∀ l, r (ix2 0 l) = ind (R l)) (l : Fin 128) :
    k0_pay14 (iota .tc S1x128 32 [1] iota_S1x128_d1_w32) j f r (ix2 0 l)
      = ind (P l ∧ ¬ (P ⟨j.val, lt2 j⟩ ∧ R l)) := by
  have hj := lt2 j
  unfold k0_pay14
  pointwise
  simp only [hf, hr, select_ind]
  rw [fold_ind (by omega), ind_mul, one_sub_ind, ind_mul]
  refine ind_congr (and_congr Iff.rfl (not_congr (and_congr ⟨?_, fun h => ⟨⟨j.val, hj⟩, ?_, h⟩⟩ Iff.rfl)))
  · rintro ⟨x, hx, hp⟩
    rw [iv_eq, cmpi_eq_small (by omega) (by omega)] at hx
    have e : x = ⟨j.val, hj⟩ := Fin.ext hx
    subst e; exact hp
  · rw [iv_eq, cmpi_eq_small (by simp; omega) (by omega)]

/-- The block's flags taken out of all flags. -/
theorem pay13_apply (a : FVec Ideal S16x128 .f32) (P : Fin 16 → Fin 128 → Prop) (ha : ∀ b l, a (ix2 b l) = ind (P b l))
    (k : ℕ) (hk : k < 16) (l : Fin 128) :
    k0_pay13 (iota .tc S16x128 32 [0] iota_S16x128_d0_w32) a (Scf.iv 0#32 1#32 k) (ix2 0 l) = ind (P ⟨k, hk⟩ l) := by
  unfold k0_pay13
  pointwise
  simp only [ha, select_ind]
  rw [fold_ind (by omega)]
  refine ind_congr ⟨?_, fun h => ⟨⟨k, hk⟩, ?_, h⟩⟩
  · rintro ⟨x, hx, hp⟩
    rw [iv_eq, cmpi_eq_small (by omega) (by omega)] at hx
    have e : x = ⟨k, hk⟩ := Fin.ext hx
    subst e; exact hp
  · rw [iv_eq, cmpi_eq_small (by omega) (by omega)]

/-- The later boxes a kept box of the block hits. -/
theorem pay15_apply (k : ℕ) (hk : k < 16) (f : FVec Ideal S1x128 .f32) (S : FVec Ideal S128x16x128 .f32) (P : Fin 128 → Prop)
    (Q : Fin 128 → Fin 16 → Fin 128 → Prop) (hf : ∀ l, f (ix2 0 l) = ind (P l)) (hS : ∀ i b l, S (ix3 i b l) = ind (Q i b l))
    (b : Fin 16) (l : Fin 128) :
    k0_pay15 (iota .tc S16x128 32 [0] iota_S16x128_d0_w32) k0_pay6 (Scf.iv 0#32 1#32 k) f S (ix2 b l)
      = ind ((∃ i, Q i b l ∧ P i) ∧ k < b.val) := by
  unfold k0_pay15 k0_pay6
  pointwise
  simp only [hf, hS, select_ind]
  have hin : ∀ x : Fin 128, Finset.fold max (Ideal.ofBits .f32 0xFF800000#32)
      (fun y : Fin 128 => ind (IntOp.cmpi .eq (BitVec.ofNat 32 x.val) (BitVec.ofNat 32 y.val) = 1#1 ∧ P y)) Finset.univ = ind (P x) := by
    intro x
    rw [fold_ind (by omega)]
    refine ind_congr ⟨?_, fun h => ⟨x, ?_, h⟩⟩
    · rintro ⟨y, hy, hp⟩
      rw [cmpi_eq_small (by omega) (by omega)] at hy
      rwa [show x = y from Fin.ext hy]
    · rw [cmpi_eq_small (by omega) (by omega)]
  simp only [hin, ind_mul, sitofp_bit]
  rw [fold_ind (by omega), ind_mul]
  refine ind_congr (and_congr Iff.rfl ?_)
  rw [iv_eq, cmpi_sgt_small (by omega) (by omega)]

/-- All flags after a block: its own row replaced, the later ones cleared where a kept box hits them. -/
theorem pay9_apply (k : ℕ) (hk : k < 16) (a u : FVec Ideal S16x128 .f32) (f : FVec Ideal S1x128 .f32) (A U : Fin 16 → Fin 128 → Prop) (P : Fin 128 → Prop)
    (ha : ∀ b l, a (ix2 b l) = ind (A b l)) (hu : ∀ b l, u (ix2 b l) = ind (U b l)) (hf : ∀ l, f (ix2 0 l) = ind (P l))
    (b : Fin 16) (l : Fin 128) :
    k0_pay9 a (Scf.iv 0#32 1#32 k) f u k0_pay16 (ix2 b l) = ind (if b.val = k then P l else A b l ∧ ¬ U b l) := by
  unfold k0_pay9 k0_pay16
  pointwise
  rw [ha, hu, hf, one_sub_ind, ind_mul, iv_eq]
  change (if IntOp.cmpi .eq (BitVec.ofNat 32 b.val) (BitVec.ofNat 32 k) = 1#1 then ind (P l) else ind (A b l ∧ ¬ U b l)) = _
  by_cases h : b.val = k
  · rw [if_pos ((cmpi_eq_small (by omega) (by omega)).mpr h), if_pos h]
  · rw [if_neg (fun hc => h ((cmpi_eq_small (by omega) (by omega)).mp hc)), if_neg h]

/-! ## The two loops -/

/-- The block's own flags after `n` rows: lane `l` is set when box `128 k + l` has survived the first `128 k + n` boxes. -/
theorem settle_apply (H : ℕ → ℕ → Prop) (k : Fin k0_t1_loop.trips) (T : FVec Ideal S128x128 .f32) (f : FVec Ideal S1x128 .f32)
    (hT : ∀ i l : Fin 128, T (ix2 i l) = ind (H (128 * k + i) (128 * k + l) ∧ i.val < l.val))
    (hf : ∀ l : Fin 128, f (ix2 0 l) = ind (KeptTo H (128 * k) (128 * k + l))) :
    ∀ n, n ≤ 128 → ∀ l : Fin 128,
      settle (iota .tc S1x128 32 [1] iota_S1x128_d1_w32) T f n (ix2 0 l) = ind (KeptTo H (128 * k + n) (128 * k + l))
  | 0, _, l => hf l
  | n + 1, hn, l => by
    have hnt : n < k0_t2_loop.trips := trips2 ▸ hn
    have ih := settle_apply H k T f hT hf n (by omega)
    rw [show settle (iota .tc S1x128 32 [1] iota_S1x128_d1_w32) T f (n + 1) = _ from settle_succ _ _ _ ⟨n, hnt⟩,
      pay14_apply ⟨n, hnt⟩ _ _ (fun l => KeptTo H (128 * k + n) (128 * k + l))
        (fun l => H (128 * k + n) (128 * k + l) ∧ n < l.val) ih (fun l => (rowAt_apply T ⟨n, hnt⟩ l).trans (hT _ _)) l]
    refine ind_congr ?_
    rw [show 128 * k.val + (n + 1) = 128 * k.val + n + 1 by omega, keptTo_succ]
    refine and_congr Iff.rfl (not_congr (and_congr (keptTo_iff_kept H (le_refl _)) (and_congr Iff.rfl ⟨fun h => by omega, fun h => by omega⟩)))

/-- One block: a flag that says its box has survived the boxes before the block comes to say so of the block too. -/
theorem blockStep_apply (H : ℕ → ℕ → Prop) (k : Fin k0_t1_loop.trips) (S : FVec Ideal S128x16x128 .f32) (acc : FVec Ideal S16x128 .f32)
    (hS : ∀ (i : Fin 128) (b : Fin 16) (l : Fin 128), S (ix3 i b l) = ind (H (128 * k + i) (128 * b + l)))
    (ha : ∀ (b : Fin 16) (l : Fin 128), acc (ix2 b l) = ind (KeptTo H (128 * k) (128 * b + l))) (b : Fin 16) (l : Fin 128) :
    blockStep (iota .tc S16x128 32 [0] iota_S16x128_d0_w32) (iota .tc S1x128 32 [1] iota_S1x128_d1_w32) S k acc (ix2 b l)
      = ind (KeptTo H (128 * k + 128) (128 * b + l)) := by
  have hk := lt1 k
  have hs := settle_apply H k (square S k) (k0_pay13 (iota .tc S16x128 32 [0] iota_S16x128_d0_w32) acc (Scf.iv 0#32 1#32 k))
    (fun i l => square_apply S (fun i b l => H (128 * k + i) (128 * b + l)) hS k i l)
    (fun l => pay13_apply acc (fun b l => KeptTo H (128 * k) (128 * b + l)) ha k hk l) 128 (le_refl _)
  unfold blockStep
  rw [trips2]
  generalize settle (iota .tc S1x128 32 [1] iota_S1x128_d1_w32) (square S k)
    (k0_pay13 (iota .tc S16x128 32 [0] iota_S16x128_d0_w32) acc (Scf.iv 0#32 1#32 k)) 128 = f at hs ⊢
  have hu := pay15_apply k hk f S (fun l => KeptTo H (128 * k + 128) (128 * k + l)) (fun i b l => H (128 * k + i) (128 * b + l)) hs hS
  generalize k0_pay15 (iota .tc S16x128 32 [0] iota_S16x128_d0_w32) k0_pay6 (Scf.iv 0#32 1#32 k) f S = u at hu ⊢
  rw [pay9_apply k hk acc u f (fun b l => KeptTo H (128 * k) (128 * b + l)) _ (fun l => KeptTo H (128 * k + 128) (128 * k + l)) ha hu hs b l]
  refine ind_congr ?_
  by_cases hb : b.val = k
  · rw [if_pos hb, hb]
  · rw [if_neg hb]
    by_cases hlt : k.val < b.val
    · rw [keptTo_add H (128 * k) 128 (128 * b + l) (by omega)]
      refine and_congr Iff.rfl (not_congr ?_)
      rw [and_iff_left hlt]
      exact exists_congr fun i => and_congr Iff.rfl (keptTo_iff_kept H (by omega))
    · rw [keptTo_iff_kept H (show 128 * b.val + l.val ≤ 128 * k.val by omega),
        keptTo_iff_kept H (show 128 * b.val + l.val ≤ 128 * k.val + 128 by omega)]
      exact ⟨fun h => h.1, fun h => ⟨h, fun h' => hlt h'.2⟩⟩

/-- The pattern of one. -/
theorem ofBits_one : Ideal.ofBits .f32 0x3F800000#32 = 1 := by simp [Ideal.ofBits, Ideal.ieee, -EReal.coe_mul]; norm_num

/-- All flags after `n` blocks: each box's flag says that it has survived the boxes of those blocks. -/
theorem blocks_apply (h : Holds B x0 x1 x2 x3 v0 v2 v4 v6) : ∀ n, n ≤ 16 → ∀ (b : Fin 16) (l : Fin 128),
    blocks v0 v2 v4 v6 (iota .tc S16x128 32 [0] iota_S16x128_d0_w32) (iota .tc S1x128 32 [1] iota_S1x128_d1_w32)
      x0 x1 x2 x3 k0_pay8 n (ix2 b l) = ind (KeptTo (hit B) (128 * n) (128 * b + l))
  | 0, _, b, l => by
    rw [blocks_zero, ind_pos (keptTo_zero _ _)]
    exact ofBits_one
  | n + 1, hn, b, l => by
    have hnt : n < k0_t1_loop.trips := trips1 ▸ hn
    have ih := blocks_apply h n (by omega)
    rw [show blocks v0 v2 v4 v6 (iota .tc S16x128 32 [0] iota_S16x128_d0_w32) (iota .tc S1x128 32 [1] iota_S1x128_d1_w32)
      x0 x1 x2 x3 k0_pay8 (n + 1) = _ from blocks_succ v0 v2 v4 v6 _ _ x0 x1 x2 x3 k0_pay8 ⟨n, hnt⟩]
    exact blockStep_apply (hit B) ⟨n, hnt⟩ _ _ (block_apply h ⟨n, hnt⟩) ih b l

/-- The flags the kernel leaves: box `128 b + l` has one when it is kept, else zero. -/
theorem keepOf_apply (h : Holds B x0 x1 x2 x3 v0 v2 v4 v6) (b : Fin 16) (l : Fin 128) :
    keepOf x0 x1 x2 x3 v0 v2 v4 v6 (ix2 b l) = ind (Kept (hit B) (128 * b + l)) := by
  unfold keepOf
  rw [trips1, blocks_apply h 16 (le_refl _) b l]
  exact ind_congr (keptTo_iff_kept (hit B) (by omega))

end Cert.Proof.V

end
-- ==== Proof.V.Boxes.lean ====
/-
  THE BEST 2000 BOXES, the same in both programs: the reference takes rows of the array of boxes, the kernel program takes
  entries of each of its columns. What is compared is a row and what it overlaps.
-/
module

public import proofs.«01_k».proof.Proof.V.RHost
public import proofs.«01_k».proof.Proof.V.KHost
public import proofs.«01_k».proof.Proof.V.Flags
public import Idealize.ShloMosaic.Lib.Pointwise
public import Idealize.ShloMosaic.Lib.ReduceAll
public import Idealize.ShloMosaic.Lib.Routing.Ops
public import Idealize.ShloMosaic.Lib.Routing.OpsSet

@[expose] public section

noncomputable section

namespace Cert.Proof.V

open Cert.ReferenceIdeal Cert.ReferenceIdeal.Gen
open Idealize.ShloMosaic Idealize.ShloMosaic.TcCoe

/-- A start index in range is the word of a number below 20000. -/
theorem inRange_word (j : Fin 2000) (J : IVec S2000x1 32) (h : inRange J (ix1 j) = 1#1) :
    ∃ b : Fin 20000, J (ix2 j 0) = BitVec.ofNat 32 b.val := by
  have h' : IntOp.andi (IntOp.cmpi .sge (J (ix2 j 0)) 0#32) (IntOp.cmpi .sle (J (ix2 j 0)) 19999#32) = 1#1 := by
    by_contra hne
    have e : ∀ x : Fin 1, x = 0 := fun x => Subsingleton.elim _ _
    revert h
    pointwise [inRange]
    rw [Finset.univ_unique, Finset.fold_singleton]
    intro h
    apply hne
    have e0 : (default : Fin 1) = 0 := rfl
    rw [e0] at h
    generalize IntOp.andi (IntOp.cmpi .sge (J (ix2 j 0)) 0#32) (IntOp.cmpi .sle (J (ix2 j 0)) 19999#32) = w at h ⊢
    revert w; decide
  generalize J (ix2 j 0) = w at h'
  have hw : w.toNat < 20000 := by
    revert h'
    simp only [IntOp.andi, IntOp.cmpi]
    intro h'
    have h1 : BitVec.sle 0#32 w = true := by
      by_contra hc; rw [Bool.not_eq_true] at hc; rw [hc] at h'; revert h'; generalize BitVec.ofBool (BitVec.sle w 19999#32) = x; revert x; decide
    have h2 : BitVec.sle w 19999#32 = true := by
      by_contra hc; rw [Bool.not_eq_true] at hc; rw [hc] at h'; revert h'; generalize BitVec.ofBool (BitVec.sle 0#32 w) = x; revert x; decide
    rw [BitVec.sle_iff_toInt_le] at h1 h2
    have e1 : (0#32).toInt = 0 := by decide
    have e2 : (19999#32).toInt = 19999 := by decide
    rw [e1] at h1; rw [e2] at h2
    have := BitVec.toInt_eq_toNat_cond w
    have := w.isLt
    split at * <;> omega
  exact ⟨⟨w.toNat, hw⟩, by rw [BitVec.ofNat_toNat, BitVec.setWidth_eq]⟩

/-- Corner `k` of box `j`, with the corners in order. -/
theorem corners_apply (a : FVec Ideal S20000x4 .f32) (j : Fin 20000) (k : Fin 4) :
    corners a (ix2 j k) = ![cx1 a (ix1 j), cy1 a (ix1 j), cx2 a (ix1 j), cy2 a (ix1 j)] k := by
  pointwise [corners]
  fin_cases k <;> rfl

/-- Entry `k` of row `j` of four stacked columns. -/
theorem stack_apply (a b c d : FVec Ideal S2000 .f32) (j : Fin 2000) (k : Fin 4) :
    stack a b c d (ix2 j k) = ![a (ix1 j), b (ix1 j), c (ix1 j), d (ix1 j)] k := by
  pointwise [stack]
  fin_cases k <;> rfl

/-- Entries of the four columns taken by index, stacked, are the rows taken by index: the same row where the index is in
    range, the same filling where it is not. -/
theorem stack_take (a : FVec Ideal S20000x4 .f32) (i : IVec S2000 32) :
    stack (takeCol (cx1 a) i) (takeCol (cy1 a) i) (takeCol (cx2 a) i) (takeCol (cy2 a) i) = takeRows (corners a) i := by
  funext p
  obtain ⟨j, k, rfl⟩ : ∃ (j : Fin 2000) (k : Fin 4), p = ix2 j k := ⟨p 0, p 1, by funext x; fin_cases x <;> rfl⟩
  rw [stack_apply]
  have hc : ∀ x : FVec Ideal S20000 .f32, takeCol x i (ix1 j) = Scalar.select (inRange (starts i) (ix1 j))
      (Host.gather Cert.KernelIdeal.gather_S20000_S2000x1_S2000_n_0_n_n_0_1_1 x (starts i) (ix1 j)) (Ideal.ofBits .f32 0x7FC00000#32) := by
    intro x; pointwise [takeCol]
  have hr : takeRows (corners a) i (ix2 j k) = Scalar.select (inRange (starts i) (ix1 j))
      (Host.gather gather_S20000x4_S2000x1_S2000x4_1_0_n_n_0_1_14 (corners a) (starts i) (ix2 j k)) (Ideal.ofBits .f32 0x7FC00000#32) := by
    pointwise [takeRows]
  rw [hr, hc, hc, hc, hc]
  by_cases h : inRange (starts i) (ix1 j) = 1#1
  · obtain ⟨b, hb⟩ := inRange_word j _ h
    have g1 : ∀ x : FVec Ideal S20000 .f32,
        Host.gather Cert.KernelIdeal.gather_S20000_S2000x1_S2000_n_0_n_n_0_1_1 x (starts i) (ix1 j) = x (ix1 b) := by
      intro x
      rw [ix1_eq_valueIdx, ix1_eq_valueIdx]
      exact Routing.gather_take1 _ rfl rfl rfl rfl x (starts i) j b (by rw [← ix2_eq_valueIdx]; exact hb) (by norm_num)
    have g2 : Host.gather gather_S20000x4_S2000x1_S2000x4_1_0_n_n_0_1_14 (corners a) (starts i) (ix2 j k) = corners a (ix2 b k) := by
      rw [ix2_eq_valueIdx, ix2_eq_valueIdx]
      exact Routing.gather_row _ rfl rfl rfl rfl rfl (corners a) (starts i) j k b (by rw [← ix2_eq_valueIdx]; exact hb) (by norm_num)
    rw [g2, corners_apply, g1, g1, g1, g1, h]
    fin_cases k <;> rfl
  · have hs : ∀ x y : EReal, Scalar.select (inRange (starts i) (ix1 j)) x y = y := fun x y => if_neg h
    rw [hs, hs, hs, hs, hs]
    fin_cases k <;> rfl

/-- The boxes as a sequence, zeros after the last. -/
def boxAt (b : FVec Ideal S2000x4 .f32) (n : ℕ) (k : Fin 4) : EReal := if h : n < 2000 then b (ix2 ⟨n, h⟩ k) else 0

/-- A real box, by its number. -/
theorem boxAt_val (b : FVec Ideal S2000x4 .f32) (i : Fin 2000) (k : Fin 4) : boxAt b i k = b (ix2 i k) := dif_pos i.isLt

/-- The reference's matrix holds the overlaps of the boxes. -/
theorem overlaps_apply (b : FVec Ideal S2000x4 .f32) (i j : Fin 2000) : overlaps b (ix2 i j) = overlap (boxAt b i) (boxAt b j) := by
  unfold overlap inter area
  simp only [boxAt_val]
  pointwise [overlaps, wide, high, areas, down, across, everywhere, bx1, bx2, by1, by2]

/-- The integer zero, made a number, is zero. -/
theorem sitofp_zero : (FloatOps.sitofp .f32 (0#32 : BitVec 32) : Ideal .f32) = (0 : EReal) := by
  change (((0#32 : BitVec 32).toInt : ℝ) : EReal) = 0
  simp

/-- The kernel's operands, a column lengthened by zeros, hold the boxes one to a row. -/
theorem padded_row (x : FVec Ideal S2000 .f32) (b : FVec Ideal S2000x4 .f32) (k : Fin 4) (hx : ∀ j, x (ix1 j) = b (ix2 j k)) (r : Fin 2048) :
    shapeCast Cert.KernelIdeal.S2048x1x1 (padded x) Cert.KernelIdeal.Gen.shapeCasts_S2048_S2048x1x1 (ix3 r 0 0) = boxAt b r k := by
  pointwise [padded]
  unfold boxAt
  simp only [hx]
  congr
  exact funext fun _ => sitofp_zero

/-- And in rows of 128. -/
theorem padded_lane (x : FVec Ideal S2000 .f32) (b : FVec Ideal S2000x4 .f32) (k : Fin 4) (hx : ∀ j, x (ix1 j) = b (ix2 j k)) (r : Fin 16) (l : Fin 128) :
    shapeCast Cert.KernelIdeal.S1x16x128 (padded x) Cert.KernelIdeal.Gen.shapeCasts_S2048_S1x16x128 (ix3 0 r l) = boxAt b (128 * r + l) k := by
  rw [Nat.mul_comm]
  pointwise [padded]
  unfold boxAt
  simp only [hx]
  congr
  exact funext fun _ => sitofp_zero

/-- The best boxes of an array of boxes and their scores. -/
def rows (a : FVec Ideal S20000x4 .f32) (s : FVec Ideal S20000 .f32) : FVec Ideal S2000x4 .f32 :=
  takeRows (corners a) (bestAt a s)

end Cert.Proof.V

end
-- ==== Proof.V.Region.lean ====
/-
  WHAT THE REGION IS GIVEN AND WHAT IT LEAVES. Its one grid point's blocks are whole arrays: the eight operands hold the
  corners of the best boxes, and the array it leaves holds, for each box, whether it is kept.
-/
module

public import proofs.«01_k».proof.Proof.V.Boxes
public import proofs.«01_k».proof.Proof.PI.Run
public import Idealize.ShloMosaic.Lib.Pipeline.ValueKit

@[expose] public section

noncomputable section

namespace Cert.Proof.V

open Cert.KernelIdeal Cert.KernelIdeal.Gen Cert.Proof.PI
open Idealize.ShloMosaic Idealize.ShloMosaic.TcCoe Idealize.ShloMosaic.StableHlo

/-! ## Blocks are whole arrays -/

/-- No window is read or written outside its blocks. -/
theorem blocked : ∀ w : Fin cfg0.W, (cfg0.win w).kind = Pipeline.WinKind.blocked := by decide +kernel

/-- Every window's block lies at the origin of its array. -/
theorem at_origin : ∀ (t : Fin cfg0.N) (w : Fin cfg0.W) (a : Fin (cfg0.win w).shape.rank), (cfg0.win w).index t a = 0 := by
  decide +kernel

/-- So an index of the block is the same index of the array. -/
theorem rect_same (w : Fin cfg0.W) (t : Fin cfg0.N) (y : ((cfg0.win w).xblock (cfg0.grid.coords t)).Idx)
    (a : Fin (cfg0.win w).shape.rank) : (((cfg0.win w).rect t).emb y a).val = (y a).val := by
  rw [Pipeline.Window.rect_emb_val (hk := blocked w), at_origin, Nat.zero_mul, Nat.zero_add]

section
variable {F : FTy → Type} [FloatOps F]
variable (m : (ℓ : Loc nD τ sig) → Buf (Elt F) ℓ) (c : Dev nD) (t : Fin cfg0.N)

/-- Window 0's block is its whole array. -/
theorem whole_0 : iblk m c 0 t = V m c main_v36 := funext fun y => congrArg (V m c main_v36) (funext fun a => Fin.ext (rect_same 0 t y a))
/-- Window 1's block is its whole array. -/
theorem whole_1 : iblk m c 1 t = V m c main_v37 := funext fun y => congrArg (V m c main_v37) (funext fun a => Fin.ext (rect_same 1 t y a))
/-- Window 2's block is its whole array. -/
theorem whole_2 : iblk m c 2 t = V m c main_v38 := funext fun y => congrArg (V m c main_v38) (funext fun a => Fin.ext (rect_same 2 t y a))
/-- Window 3's block is its whole array. -/
theorem whole_3 : iblk m c 3 t = V m c main_v39 := funext fun y => congrArg (V m c main_v39) (funext fun a => Fin.ext (rect_same 3 t y a))
/-- Window 4's block is its whole array. -/
theorem whole_4 : iblk m c 4 t = V m c main_v40 := funext fun y => congrArg (V m c main_v40) (funext fun a => Fin.ext (rect_same 4 t y a))
/-- Window 5's block is its whole array. -/
theorem whole_5 : iblk m c 5 t = V m c main_v41 := funext fun y => congrArg (V m c main_v41) (funext fun a => Fin.ext (rect_same 5 t y a))
/-- Window 6's block is its whole array. -/
theorem whole_6 : iblk m c 6 t = V m c main_v42 := funext fun y => congrArg (V m c main_v42) (funext fun a => Fin.ext (rect_same 6 t y a))
/-- Window 7's block is its whole array. -/
theorem whole_7 : iblk m c 7 t = V m c main_v43 := funext fun y => congrArg (V m c main_v43) (funext fun a => Fin.ext (rect_same 7 t y a))

/-- The array the region leaves is the flags of its operands. -/
theorem region_out : (dats m 0 c).arrAt 8 (cfgs 0).N = flags m c t0_0 := by
  refine (dats m 0 c).arrAt_eq_of_after_last 8 t0_0 (by decide +kernel) _ fun y => ?_
  blk_simp
  rw [after_8]
  try rfl
end

/-! ## What they hold -/

/-- The kernel program's four columns are the columns of the best boxes. -/
theorem rows_col (a : FVec Ideal S20000x4 .f32) (s : FVec Ideal S20000 .f32) (j : Fin 2000) (k : Fin 4) :
    ![takeCol (cx1 a) (bestAt a s) (ix1 j), takeCol (cy1 a) (bestAt a s) (ix1 j), takeCol (cx2 a) (bestAt a s) (ix1 j),
      takeCol (cy2 a) (bestAt a s) (ix1 j)] k = rows a s (ix2 j k) := by
  rw [rows, ← stack_take, stack_apply]

variable (m : (ℓ : Loc nD τ sig) → Buf (Elt Ideal) ℓ) (c : Dev nD) (t : Fin cfg0.N)

/-- The best boxes of the arguments. -/
def given : FVec Ideal S2000x4 .f32 := rows (m ((c.tc : Thread nD τ).loc main_arg0)) (m ((c.tc : Thread nD τ).loc main_arg1))

/-- The operands hold the best boxes' corners, one box to a row and in rows of 128. -/
theorem operands : Holds (boxAt (given m c)) (iblk m c 0 t) (iblk m c 1 t) (iblk m c 2 t) (iblk m c 3 t)
    (iblk m c 4 t) (iblk m c 5 t) (iblk m c 6 t) (iblk m c 7 t) where
  row0 r := by rw [whole_0]; exact (congrFun (pre_v36 _) _).trans (padded_row _ _ _ (fun j => rows_col _ _ j 0) r)
  row1 r := by rw [whole_1]; exact (congrFun (pre_v37 _) _).trans (padded_row _ _ _ (fun j => rows_col _ _ j 1) r)
  row2 r := by rw [whole_2]; exact (congrFun (pre_v38 _) _).trans (padded_row _ _ _ (fun j => rows_col _ _ j 2) r)
  row3 r := by rw [whole_3]; exact (congrFun (pre_v39 _) _).trans (padded_row _ _ _ (fun j => rows_col _ _ j 3) r)
  lane0 b l := by rw [whole_4]; exact (congrFun (pre_v40 _) _).trans (padded_lane _ _ _ (fun j => rows_col _ _ j 0) b l)
  lane1 b l := by rw [whole_5]; exact (congrFun (pre_v41 _) _).trans (padded_lane _ _ _ (fun j => rows_col _ _ j 1) b l)
  lane2 b l := by rw [whole_6]; exact (congrFun (pre_v42 _) _).trans (padded_lane _ _ _ (fun j => rows_col _ _ j 2) b l)
  lane3 b l := by rw [whole_7]; exact (congrFun (pre_v43 _) _).trans (padded_lane _ _ _ (fun j => rows_col _ _ j 3) b l)

/-- The region's flag of a box is one where it is kept and zero elsewhere. -/
theorem flags_apply (b : Fin 16) (l : Fin 128) :
    flags m c t (ix2 b l) = ind (Kept (hit (boxAt (given m c))) (128 * b + l)) :=
  keepOf_apply (operands m c t) b l

end Cert.Proof.V

end
-- ==== Proof.V.Loop.lean ====
/-
  WHAT THE REFERENCE'S LOOP LEAVES: after `n` trips a box's flag is set exactly when it has survived the boxes before `n`;
  so after the loop exactly the kept boxes' flags are set.
-/
module

public import proofs.«01_k».proof.Proof.V.Boxes

@[expose] public section

noncomputable section

namespace Cert.Proof.V

open Cert.ReferenceIdeal Cert.ReferenceIdeal.Gen Cert.ReferenceIdeal.Value
open Idealize.ShloMosaic Idealize.ShloMosaic.TcCoe Idealize.ShloMosaic.StableHlo

section
variable {F : FTy → Type} [FloatOps F]

/-- A word counted from the end when negative. -/
def wrapped (j : IVec S_ 32) : IVec S_ 32 := select (cmpi .slt j (constantI S_ 32 0#32)) (addi j (constantI S_ 32 2000#32)) j

/-- Row `j` of the matrix of overlaps. -/
def rowOf (iou : FVec F S2000x2000 .f32) (j : IVec S_ 32) : FVec F S2000 .f32 :=
  shapeCast S2000 (Host.dynamicSlice S1x2000 iou
      (fun k => ((![wrapped j, select (cmpi .slt (constantI S_ 32 0#32) (constantI S_ 32 0#32)) (addi (constantI S_ 32 0#32) (constantI S_ 32 2000#32)) (constantI S_ 32 0#32)] : Fin 2 → IVec S_ 32) k (Shape.Idx.first h_S_)).toInt)
        sliceFits_S2000x2000_S1x2000) shapeCasts_S1x2000_S2000

/-- The flag of box `j`. -/
def flagOf (keep : IVec S2000 1) (j : IVec S_ 32) : IVec S_ 1 :=
  shapeCast S_ (Host.dynamicSlice S1 keep
      (fun k => ((![wrapped j] : Fin 1 → IVec S_ 32) k (Shape.Idx.first h_S_)).toInt) sliceFits_S2000_S1) shapeCasts_S1_S_

/-- What one trip makes of the flags. -/
def strike (iou : FVec F S2000x2000 .f32) (ids : IVec S2000 32) (j : IVec S_ 32) (keep : IVec S2000 1) : IVec S2000 1 :=
  andi keep (noti (andi (andi (cmpf .ogt (rowOf iou j) (broadcastInDim S2000 ![] bcast_S_S2000 (constant S_ .f32 0x3F333333#32)))
    (broadcastInDim S2000 ![] bcast_S_S2000 (flagOf keep j)))
    (cmpi .sgt ids (broadcastInDim S2000 ![] bcast_S_S2000 j))))

/-- The generated step of the loop's flags is `strike`. -/
theorem step_strike (X : Valuation τ sig (Elt F)) : step_main_v81_4 X =
    strike (X (Proc.devRef .tc main_v81_1)) (X (Proc.devRef .tc main_v81_2)) (res_main_while0b_v89 X) (X (Proc.devRef .tc main_v81_4)) := rfl

end

/-- The word of a small number, read as an integer, is that number. -/
theorem toInt_small {n : ℕ} (hn : n < 2000) : (BitVec.ofNat 32 n).toInt = n := by
  rw [BitVec.toInt_eq_toNat_of_lt (by rw [BitVec.toNat_ofNat]; omega), BitVec.toNat_ofNat]; congr 1; omega

/-- The word of a small number is not counted from the end. -/
theorem wrapped_small {n : ℕ} (hn : n < 2000) : wrapped (fun _ => BitVec.ofNat 32 n) = fun _ => BitVec.ofNat 32 n := by
  funext i
  pointwise [wrapped]
  refine if_neg fun h => ?_
  unfold IntOp.cmpi at h
  rw [show (0#32 : BitVec 32) = BitVec.ofNat 32 0 from rfl] at h
  simp only [slt_small (show n < 2 ^ 31 by omega) (show 0 < 2 ^ 31 by norm_num)] at h
  simp at h

/-- Row `n` of the overlaps, at a column. -/
theorem rowOf_apply (iou : FVec Ideal S2000x2000 .f32) (n l : Fin 2000) :
    rowOf iou (fun _ => BitVec.ofNat 32 n.val) (ix1 l) = iou (ix2 n l) := by
  unfold rowOf
  rw [wrapped_small n.isLt]
  pointwise
  have h0 := toInt_small n.isLt
  congr 1
  funext a; apply Fin.ext
  fin_cases a
  · change (min (max (BitVec.ofNat 32 n.val).toInt 0) ((2000 - 1 : ℕ) : ℤ)).toNat = n.val
    rw [h0]; have := n.isLt; omega
  · change (min (max (0#32 : BitVec 32).toInt 0) ((2000 - 2000 : ℕ) : ℤ)).toNat + l.val = l.val
    rw [show (0#32 : BitVec 32).toInt = 0 by decide]; omega

/-- The flag of box `n`. -/
theorem flagOf_apply (keep : IVec S2000 1) (n : Fin 2000) (i : S_.Idx) :
    flagOf keep (fun _ => BitVec.ofNat 32 n.val) i = keep (ix1 n) := by
  unfold flagOf
  rw [wrapped_small n.isLt]
  pointwise
  have h0 := toInt_small n.isLt
  congr 1
  funext a; apply Fin.ext
  fin_cases a
  change (min (max (BitVec.ofNat 32 n.val).toInt 0) ((2000 - 1 : ℕ) : ℤ)).toNat = n.val
  rw [h0]; have := n.isLt; omega

/-- One bit less another. -/
theorem and_not_bit (a b : BitVec 1) : IntOp.andi a (~~~ b) = 1#1 ↔ a = 1#1 ∧ ¬ b = 1#1 := by
  revert a b; decide
/-- The conjunction of two bits is set when both are. -/
theorem and_bit (a b : BitVec 1) : IntOp.andi a b = 1#1 ↔ a = 1#1 ∧ b = 1#1 := by
  revert a b; decide
/-- The bit of a truth value is set when it is true. -/
theorem ofBool_bit (b : Bool) : BitVec.ofBool b = 1#1 ↔ b = true := by
  revert b; decide

/-- A trip strikes the boxes after box `n` that it hits, if box `n` is itself still there. -/
theorem strike_apply (b : FVec Ideal S2000x4 .f32) (keep : IVec S2000 1) (n l : Fin 2000) :
    strike (overlaps b) (iotaInDim S2000 32 0) (fun _ => BitVec.ofNat 32 n.val) keep (ix1 l) = 1#1
      ↔ keep (ix1 l) = 1#1 ∧ ¬ (keep (ix1 n) = 1#1 ∧ (hit (boxAt b) n l ∧ n.val < l.val)) := by
  unfold strike
  pointwise
  rw [and_not_bit, and_bit, and_bit, ofBool_bit, rowOf_apply, flagOf_apply, overlaps_apply,
    cmpi_sgt_small (show l.val < 2 ^ 31 by omega) (show n.val < 2 ^ 31 by omega)]
  rw [decide_eq_true_iff]
  unfold hit
  tauto

/-- The trip reads box number `n`. -/
theorem number_apply (X : Valuation τ sig (Elt Ideal)) (n : Fin 2000) (h0 : X (Proc.devRef .tc main_v81_0) = iotaInDim S2000 32 0)
    (h3 : X (Proc.devRef .tc main_v81_3) = fun _ => BitVec.ofNat 32 n.val) : res_main_while0b_v89 X = fun _ => BitVec.ofNat 32 n.val := by
  funext i
  unfold res_main_while0b_v89
  rw [h0]
  have e : (![X (Proc.devRef .tc main_v81_3)] : Fin 1 → (⟨S_, .i32⟩ : BufTy).Contents (Elt Ideal)) = ![fun _ => BitVec.ofNat 32 n.val] := by rw [h3]; rfl
  rw [e]
  pointwise
  congr 1
  change (min (max (BitVec.ofNat 32 n.val).toInt 0) ((2000 - 1 : ℕ) : ℤ)).toNat = n.val
  rw [toInt_small n.isLt]; have := n.isLt; omega

variable (m : (ℓ : Loc nD τ sig) → Buf (Elt Ideal) ℓ) (c : Dev nD)

/-- The best boxes, of the reference's own arguments. -/
def rowsIn : FVec Ideal S2000x4 .f32 := rows (m ((c.tc : Thread nD τ).loc main_arg0)) (m ((c.tc : Thread nD τ).loc main_arg1))

/-- Before trip `n` of the loop: the numbers, the overlaps, and the flags of what has survived. -/
theorem loop_inv (n : ℕ) : n ≤ 2000 →
    atK m n c (Proc.devRef .tc main_v81_0) = iotaInDim S2000 32 0
    ∧ atK m n c (Proc.devRef .tc main_v81_1) = overlaps (rowsIn m c)
    ∧ atK m n c (Proc.devRef .tc main_v81_2) = iotaInDim S2000 32 0
    ∧ ∀ l : Fin 2000, (atK m n c (Proc.devRef .tc main_v81_4) : IVec S2000 1) (ix1 l) = 1#1 ↔ KeptTo (hit (boxAt (rowsIn m c))) n l := by
  induction n with
  | zero =>
    intro _
    refine ⟨entry_v81_0 _, entry_v81_1 _, entry_v81_2 _, fun l => ?_⟩
    have e : atK m 0 c (Proc.devRef .tc main_v81_4) = (broadcastInDim S2000 ![] bcast_S_S2000 (constantI S_ 1 1#1) : IVec S2000 1) := entry_v81_4 _
    rw [e]
    exact ⟨fun _ => keptTo_zero _ _, fun _ => by pointwise⟩
  | succ n ih =>
    intro hn
    obtain ⟨i0, i1, i2, i4⟩ := ih (by omega)
    have ha := trip_agree (atK m n c)
    have e3 : atK m n c (Proc.devRef .tc main_v81_3) = fun _ => BitVec.ofNat 32 n := by rw [atK_ctr]; simp only [iv_eq]
    refine ⟨(ha main_v81_0 (by decide)).trans ((STEP_main_v81_0 _).trans i0), (ha main_v81_1 (by decide)).trans ((STEP_main_v81_1 _).trans i1),
      (ha main_v81_2 (by decide)).trans ((STEP_main_v81_2 _).trans i2), fun l => ?_⟩
    have e4 : atK m (n + 1) c (Proc.devRef .tc main_v81_4) = strike (overlaps (rowsIn m c)) (iotaInDim S2000 32 0) (fun _ => BitVec.ofNat 32 n)
        (atK m n c (Proc.devRef .tc main_v81_4)) := by
      refine (ha main_v81_4 (by decide)).trans ((STEP_main_v81_4 _).trans ((step_strike _).trans ?_))
      rw [number_apply _ ⟨n, by omega⟩ i0 e3, i1, i2]
      rfl
    rw [e4]
    refine (strike_apply (rowsIn m c) _ ⟨n, by omega⟩ l).trans ?_
    rw [i4 l, i4 ⟨n, by omega⟩, keptTo_succ, keptTo_iff_kept _ (le_refl n)]

/-- After the loop the flags set are those of the boxes kept. -/
theorem loop_flags (l : Fin 2000) :
    (atK m 2000 c (Proc.devRef .tc main_v81_4) : IVec S2000 1) (ix1 l) = 1#1 ↔ Kept (hit (boxAt (rowsIn m c))) l :=
  ((loop_inv m c 2000 le_rfl).2.2.2 l).trans (keptTo_iff_kept _ l.isLt.le)

end Cert.Proof.V

end
-- ==== Proof.V.Result.lean ====
/-
  WHAT EACH PROGRAM RETURNS, as one function of which boxes are kept: `answer` marks the kept boxes and takes the first
  thousand of the best scores among them. The kernel program's array of flags and the reference's loop mark the same boxes.
-/
module

public import proofs.«01_k».proof.Proof.V.Region
public import proofs.«01_k».proof.Proof.V.Loop

@[expose] public section

noncomputable section

namespace Cert.Proof.V

open Idealize.ShloMosaic Idealize.ShloMosaic.TcCoe Idealize.ShloMosaic.StableHlo

open Classical in
/-- The boxes that survive suppression, as a mask. -/
def survivors (b : FVec Ideal Cert.KernelIdeal.S2000x4 .f32) : IVec Cert.KernelIdeal.S2000 1 :=
  fun p => if Kept (hit (boxAt b)) (p 0).val then 1#1 else 0#1

/-- The result of both programs, of an array of boxes and their scores. -/
def answer (a : FVec Ideal Cert.KernelIdeal.S20000x4 .f32) (s : FVec Ideal Cert.KernelIdeal.S20000 .f32) :
    FVec Ideal Cert.KernelIdeal.S1000x5 .f32 :=
  result (survivors (rows a s)) (best a s) (rows a s)

/-- A mask set exactly where boxes survive is the survivors' mask. -/
theorem eq_survivors (b : FVec Ideal Cert.KernelIdeal.S2000x4 .f32) (k : IVec Cert.KernelIdeal.S2000 1)
    (h : ∀ l : Fin 2000, k (ix1 l) = 1#1 ↔ Kept (hit (boxAt b)) l) : k = survivors b := by
  funext p
  obtain ⟨l, rfl⟩ : ∃ l : Fin 2000, p = ix1 l := ⟨p 0, by funext x; fin_cases x; rfl⟩
  have hl := h l
  unfold survivors
  by_cases hk : Kept (hit (boxAt b)) l
  · rw [hl.2 hk]; exact (if_pos hk).symm
  · have h1 : k (ix1 l) ≠ 1#1 := fun e => hk (hl.1 e)
    refine Eq.trans ?_ (if_neg hk).symm
    revert h1
    generalize k (ix1 l) = w
    revert w; decide

/-! ## The kernel program -/

section
open Cert.KernelIdeal Cert.KernelIdeal.Gen Cert.Proof.PI

/-- The pattern the flags are compared with is one half, which lies between zero and one. -/
theorem ofBits_half : Ideal.ofBits .f32 0x3F000000#32 = ((1 / 2 : ℝ) : EReal) := by
  simp [Ideal.ofBits, Ideal.ieee, -EReal.coe_mul]; norm_num
/-- One half is below one. -/
theorem half_lt_one : Ideal.ofBits .f32 0x3F000000#32 < (1 : EReal) := by
  rw [ofBits_half]; exact_mod_cast (by norm_num : (1 / 2 : ℝ) < 1)
/-- One half is above zero. -/
theorem zero_lt_half : (0 : EReal) < Ideal.ofBits .f32 0x3F000000#32 := by
  rw [ofBits_half]; exact_mod_cast (by norm_num : (0 : ℝ) < 1 / 2)

/-- The flags compared with one half: set exactly at the boxes whose flag is one. -/
theorem asBool_ind (x : FVec Ideal S16x128 .f32) (p : ℕ → Prop) (h : ∀ (b : Fin 16) (l : Fin 128), x (ix2 b l) = ind (p (128 * b + l)))
    (j : Fin 2000) : asBool x (ix1 j) = 1#1 ↔ p j := by
  pointwise [asBool]
  rw [h]
  simp only [Nat.div_add_mod]
  by_cases hp : p j
  · rw [ind_pos hp, decide_eq_true half_lt_one]; exact ⟨fun _ => hp, fun _ => rfl⟩
  · rw [ind_neg hp, decide_eq_false zero_lt_half.le.not_gt]; exact ⟨fun h => absurd h (by decide), fun h => absurd h hp⟩

variable (m : (ℓ : Loc nD τ sig) → Buf (Elt Ideal) ℓ) (c : Dev nD)

/-- The mask the kernel program makes of its flags. -/
theorem kernel_mask : asBool (flags m c t0_0) = survivors (given m c) :=
  eq_survivors _ _ (asBool_ind _ _ (flags_apply m c t0_0))

/-- What the kernel program leaves in its result. -/
theorem kernel_result : Pipeline.afterTail₀ cfgs (dats m) 0 (V0 m)
      [hostOps1, hostOps1_1, hostOps1_2, hostOps1_3, hostOps1_4, hostOps1_5, hostOps1_6, hostOps1_7, hostOps1_8] c main_v60
    = answer (m ((c.tc : Thread nD τ).loc main_arg0)) (m ((c.tc : Thread nD τ).loc main_arg1)) := by
  unfold Pipeline.afterTail₀
  rw [post_v60,
    show Pipeline.withArrays (cfgs 0).spec c (V0 m c) (fun w => (dats m 0 c).arrAt w (cfgs 0).N) (Proc.devRef .tc main_v44)
      = (dats m 0 c).arrAt 8 (cfgs 0).N from Pipeline.withArrays_arr _ launch0.win.arr_inj c (V0 m c) _ 8,
    Pipeline.withArrays_of_ne _ c (V0 m c) _ main_values (by exact (by decide : ∀ w, Pipeline.arrRef spec0 w ≠ main_values)),
    Pipeline.withArrays_of_ne _ c (V0 m c) _ main_v28 (by exact (by decide : ∀ w, Pipeline.arrRef spec0 w ≠ main_v28)),
    Pipeline.withArrays_of_ne _ c (V0 m c) _ main_v29 (by exact (by decide : ∀ w, Pipeline.arrRef spec0 w ≠ main_v29)),
    Pipeline.withArrays_of_ne _ c (V0 m c) _ main_v30 (by exact (by decide : ∀ w, Pipeline.arrRef spec0 w ≠ main_v30)),
    Pipeline.withArrays_of_ne _ c (V0 m c) _ main_v31 (by exact (by decide : ∀ w, Pipeline.arrRef spec0 w ≠ main_v31)),
    region_out, kernel_mask]
  unfold V0
  rw [pre_values, pre_v28, pre_v29, pre_v30, pre_v31, stack_take]
  rfl
end

/-! ## The reference -/

section
open Cert.ReferenceIdeal Cert.ReferenceIdeal.Gen Cert.ReferenceIdeal.Value

variable (m : (ℓ : Loc nD τ sig) → Buf (Elt Ideal) ℓ) (c : Dev nD)

/-- The mask the reference's loop ends with. -/
theorem loop_mask : atK m 2000 c (Proc.devRef .tc main_v81_4) = survivors (rowsIn m c) :=
  eq_survivors _ _ (loop_flags m c)

/-- What the reference leaves in its result. -/
theorem reference_result : finalContents condOps preI bodyI postI 2000 m c (Proc.devRef .tc main_v88)
    = answer (m ((c.tc : Thread nD τ).loc main_arg0)) (m ((c.tc : Thread nD τ).loc main_arg1)) := by
  refine (post_v88 (after condOps (atK m 2000 c))).trans ?_
  rw [cond_keeps (atK m 2000 c) main_v81_4 (by decide), loop_mask,
    R.loop_keep m c main_values (by decide +kernel), R.loop_keep m c main_v33 (by decide +kernel),
    show entryContents preI m c (Proc.devRef .tc main_values) = _ from entry_values (launchContents m c),
    show entryContents preI m c (Proc.devRef .tc main_v33) = _ from entry_v33 (launchContents m c)]
  rfl
end

end Cert.Proof.V

end
-- ==== Proof.V.Algebraic.lean ====
/-
  THE EQUATION. From arguments that agree, both programs run to a state whose result is `answer` of the arguments, which end
  unchanged.
-/
module

public import proofs.«01_k».proof.Proof.V.Result
public import proofs.«01_k».proof.Defs

@[expose] public section

noncomputable section

namespace Cert.Proof.V

open Idealize.ShloMosaic Idealize.ShloMosaic.TcCoe Idealize.SL.Sem

/-- The kernel program ends with `answer` of its arguments in its result, and the arguments unchanged. -/
theorem kernel_runs (m : (ℓ : Loc Cert.KernelIdeal.nD Cert.KernelIdeal.τ Cert.KernelIdeal.sig) → Buf (Elt Ideal) ℓ)
    (g : Dev Cert.KernelIdeal.nD → PrngReg) :
    θ_run Cert.KernelIdeal.defs (onTc (τ := Cert.KernelIdeal.τ) Cert.KernelIdeal.main) ⟨m, fun _ => 0, g⟩ (fun r => ∀ c : Dev Cert.KernelIdeal.nD,
      r.2.mem ((c.tc : Thread _ _).loc Cert.KernelIdeal.main_v60)
        = answer (m ((c.tc : Thread _ _).loc Cert.KernelIdeal.main_arg0)) (m ((c.tc : Thread _ _).loc Cert.KernelIdeal.main_arg1))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)) := by
  refine (θ_run _ _ _).mono (fun r h c => ?_) (θ_run_and (PI.run_main m g) (PI.unchanged m g))
  exact ⟨((h.1 c).2 Cert.KernelIdeal.main_v60 (Pipeline.mem_restRefs_of _ (by decide) (by decide))).trans (kernel_result m c),
    h.2 c⟩

/-- The reference ends with `answer` of its arguments in its result, and the arguments unchanged. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) Cert.ReferenceIdeal.main) ⟨m, fun _ => 0, g⟩ (fun r => ∀ c : Dev Cert.ReferenceIdeal.nD,
      r.2.mem ((c.tc : Thread _ _).loc Cert.ReferenceIdeal.main_v88)
        = answer (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run _ _ _).mono (fun _ h c => ⟨(h c Cert.ReferenceIdeal.main_v88 rfl).trans (reference_result m c),
    (h c Cert.ReferenceIdeal.main_arg0 rfl).trans (R.final_arg0 m c), (h c Cert.ReferenceIdeal.main_arg1 rfl).trans (R.final_arg1 m c)⟩)
    (Cert.ReferenceIdeal.Value.run_fold m g)

/-- From equal arguments the two programs return equal results. -/
theorem algebraic : Cert.algebraic_KernelIdeal_ReferenceIdeal := by
  intro m g m' g' _ hargs
  refine ⟨fun c => answer (m ((c.tc : Thread _ _).loc Cert.KernelIdeal.main_arg0)) (m ((c.tc : Thread _ _).loc Cert.KernelIdeal.main_arg1)),
    kernel_runs m g, (θ_run _ _ _).mono (fun r h c => ⟨(h c).1.trans ?_, (h c).2⟩) (reference_runs m' g')⟩
  exact congrArg₂ answer (hargs c).1 (hargs c).2

end Cert.Proof.V

end
-- ==== Proof.lean ====
/-
  THE CLAIM, assembled from the modules beside it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.P.Run
public import proofs.«01_k».proof.Proof.PI.Run
public import proofs.«01_k».proof.Proof.R.Frame
public import proofs.«01_k».proof.Proof.V.Algebraic

@[expose] public section

noncomputable section

namespace Cert.Proof

open Idealize.ShloMosaic Idealize.SL.Sem

/-- The claims together. -/
theorem claim : Cert.Claim :=
  ⟨Cert.Kernel.Gen.facts, Cert.KernelIdeal.Gen.facts, Cert.ReferenceIdeal.Gen.facts,
    fun m ρ _ => Cert.Proof.P.quiet m ρ, fun m ρ _ => Cert.Proof.PI.quiet m ρ, fun m ρ _ => Cert.Proof.R.quiet m ρ, trivial,
    Cert.Proof.V.algebraic⟩

end Cert.Proof

end
